-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  IdealRules.named_const.Statement Cert.KernelIdeal.κ "q_scale" .f32 0x3E0293EE#32 (((Real.sqrt 128)⁻¹ * (Real.log 2)⁻¹ : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v15)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v88_2)) (v1 : (c : Dev Cert.Kernel4Ideal.nD) → Buf (Elt Ideal) ((c.tc : Thread Cert.Kernel4Ideal.nD Cert.Kernel4Ideal.τ).loc Cert.Kernel4Ideal.main_v88_3)) (v2 : (c : Dev Cert.Kernel4Ideal.nD) → Buf (Elt Ideal) ((c.tc : Thread Cert.Kernel4Ideal.nD Cert.Kernel4Ideal.τ).loc Cert.Kernel4Ideal.main_v88_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v88_2) = v0 c
          ∧ r.2.mem ((c.tc : Thread Cert.Kernel4Ideal.nD Cert.Kernel4Ideal.τ).loc Cert.Kernel4Ideal.main_v88_3) = v1 c
          ∧ r.2.mem ((c.tc : Thread Cert.Kernel4Ideal.nD Cert.Kernel4Ideal.τ).loc Cert.Kernel4Ideal.main_v88_4) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v34) = v0 c
          ∧ r.2.mem ((c.tc : Thread Cert.Reference4Ideal.nD Cert.Reference4Ideal.τ).loc Cert.Reference4Ideal.main_v36) = v1 c
          ∧ r.2.mem ((c.tc : Thread Cert.Reference4Ideal.nD Cert.Reference4Ideal.τ).loc Cert.Reference4Ideal.main_v38) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_qk.lean ====
abbrev S1x16384x16x128 : Shape := ⟨4, ![1, 16384, 16, 128]⟩
abbrev S1x16384x4x128 : Shape := ⟨4, ![1, 16384, 4, 128]⟩
abbrev S_ : Shape := ⟨0, ![]⟩

class Facts : Prop where
  bcast_S_S1x16384x16x128 : S_.BroadcastsInDim S1x16384x16x128 (![] : Fin 0 → Fin S1x16384x16x128.rank)
  bcast_S_S1x16384x4x128 : S_.BroadcastsInDim S1x16384x4x128 (![] : Fin 0 → Fin S1x16384x4x128.rank)

variable [Facts]

def fn {F : FTy → Type} [FloatOps F] (main_arg0 : FVec F S1x16384x16x128 .f32) (main_arg1 : FVec F S1x16384x4x128 .f32) (main_arg2 : FVec F S1x16384x4x128 .f32) : IVec S1x16384x16x128 1 × IVec S1x16384x4x128 1 :=
  let main_v0 : FVec F S1x16384x16x128 .f32 := Host.absf main_arg0
  let main_cst : FVec F S_ .f32 := constant S_ .f32 0x7F800000#32
  let main_v1 : FVec F S1x16384x16x128 .f32 := broadcastInDim S1x16384x16x128 ![] bcast_S_S1x16384x16x128 main_cst
  let main_v2 : IVec S1x16384x16x128 1 := cmpf .olt main_v0 main_v1
  let main_v3 : FVec F S1x16384x4x128 .f32 := Host.absf main_arg1
  let main_cst_0 : FVec F S_ .f32 := constant S_ .f32 0x7F800000#32
  let main_v4 : FVec F S1x16384x4x128 .f32 := broadcastInDim S1x16384x4x128 ![] bcast_S_S1x16384x4x128 main_cst_0
  let main_v5 : IVec S1x16384x4x128 1 := cmpf .olt main_v3 main_v4
  (main_v2, main_v5)
-- ==== Kernel.lean ====
abbrev S1x16384x16x128 : Shape := ⟨4, ![1, 16384, 16, 128]⟩
abbrev S1x16384x4x128 : Shape := ⟨4, ![1, 16384, 4, 128]⟩
abbrev S16384x2048 : Shape := ⟨2, ![16384, 2048]⟩
abbrev S16384x4x128 : Shape := ⟨3, ![16384, 4, 128]⟩
abbrev S4x16384x128 : Shape := ⟨3, ![4, 16384, 128]⟩
abbrev S16384x512 : Shape := ⟨2, ![16384, 512]⟩
abbrev S512x16384 : Shape := ⟨2, ![512, 16384]⟩
abbrev S512x512 : Shape := ⟨2, ![512, 512]⟩
abbrev S1x16384x128 : Shape := ⟨3, ![1, 16384, 128]⟩
abbrev S128x16384 : Shape := ⟨2, ![128, 16384]⟩
abbrev S4x1x512 : Shape := ⟨3, ![4, 1, 512]⟩
abbrev S4x128x512 : Shape := ⟨3, ![4, 128, 512]⟩
abbrev S1x8192x128 : Shape := ⟨3, ![1, 8192, 128]⟩
abbrev S8192x128 : Shape := ⟨2, ![8192, 128]⟩
abbrev S128x8192 : Shape := ⟨2, ![128, 8192]⟩
abbrev S512x128 : Shape := ⟨2, ![512, 128]⟩
abbrev S8192x512 : Shape := ⟨2, ![8192, 512]⟩
abbrev S1x1x512 : Shape := ⟨3, ![1, 1, 512]⟩
abbrev S1x512 : Shape := ⟨2, ![1, 512]⟩
abbrev S512 : Shape := ⟨1, ![512]⟩
abbrev S1x128x512 : Shape := ⟨3, ![1, 128, 512]⟩
abbrev S128x512 : Shape := ⟨2, ![128, 512]⟩

abbrev nBuf : Space → Nat
  | .hbm => 11
  | .vmem => 10
  | .smem => 0
  | _ => 0

abbrev bufTy : (tb : Table) → Fin (tcTables nBuf tb) → BufTy
  | .hbm, ⟨0, _⟩ => ⟨S1x16384x16x128, .f32⟩
  | .hbm, ⟨1, _⟩ => ⟨S1x16384x4x128, .f32⟩
  | .hbm, ⟨2, _⟩ => ⟨S1x16384x4x128, .f32⟩
  | .hbm, ⟨3, _⟩ => ⟨S16384x2048, .f32⟩
  | .hbm, ⟨4, _⟩ => ⟨S16384x4x128, .f32⟩
  | .hbm, ⟨5, _⟩ => ⟨S4x16384x128, .f32⟩
  | .hbm, ⟨6, _⟩ => ⟨S4x16384x128, .bf16⟩
  | .hbm, ⟨7, _⟩ => ⟨S16384x512, .f32⟩
  | .hbm, ⟨8, _⟩ => ⟨S16384x512, .bf16⟩
  | .hbm, ⟨9, _⟩ => ⟨S512x16384, .bf16⟩
  | .hbm, ⟨10, _⟩ => ⟨S16384x2048, .bf16⟩
  | .local _ .vmem, ⟨0, _⟩ => ⟨S512x512, .f32⟩
  | .local _ .vmem, ⟨1, _⟩ => ⟨S512x512, .f32⟩
  | .local _ .vmem, ⟨2, _⟩ => ⟨S1x16384x128, .bf16⟩
  | .local _ .vmem, ⟨3, _⟩ => ⟨S1x16384x128, .bf16⟩
  | .local _ .vmem, ⟨4, _⟩ => ⟨S128x16384, .bf16⟩
  | .local _ .vmem, ⟨5, _⟩ => ⟨S128x16384, .bf16⟩
  | .local _ .vmem, ⟨6, _⟩ => ⟨S512x512, .bf16⟩
  | .local _ .vmem, ⟨7, _⟩ => ⟨S512x512, .bf16⟩
  | .local _ .vmem, ⟨8, _⟩ => ⟨S4x1x512, .f32⟩
  | .local _ .vmem, ⟨9, _⟩ => ⟨S4x128x512, .f32⟩
  | _, _ => ⟨S1x16384x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "q_scale" => some (((Real.sqrt 128)⁻¹ * (Real.log 2)⁻¹ : ℝ) : EReal)
  | _ => none
-- ==== ReferenceIdeal.lean ====
abbrev S1x16384x16x128 : Shape := ⟨4, ![1, 16384, 16, 128]⟩
abbrev S1x16384x4x128 : Shape := ⟨4, ![1, 16384, 4, 128]⟩
abbrev S1x16384x4x4x128 : Shape := ⟨5, ![1, 16384, 4, 4, 128]⟩
abbrev S_ : Shape := ⟨0, ![]⟩
abbrev S1x4x16384x16384x4 : Shape := ⟨5, ![1, 4, 16384, 16384, 4]⟩
abbrev S1x4x4x16384x16384 : Shape := ⟨5, ![1, 4, 4, 16384, 16384]⟩
abbrev S1x4x4x16384 : Shape := ⟨4, ![1, 4, 4, 16384]⟩
abbrev S1x4x4x16384x1 : Shape := ⟨5, ![1, 4, 4, 16384, 1]⟩
abbrev S1x4x128x4x16384 : Shape := ⟨5, ![1, 4, 128, 4, 16384]⟩
abbrev S16384x2048 : Shape := ⟨2, ![16384, 2048]⟩

abbrev nBuf : Space → Nat
  | .hbm => 30
  | .vmem => 0
  | .smem => 0
  | _ => 0

abbrev bufTy : (tb : Table) → Fin (tcTables nBuf tb) → BufTy
  | .hbm, ⟨0, _⟩ => ⟨S1x16384x16x128, .f32⟩
  | .hbm, ⟨1, _⟩ => ⟨S1x16384x4x128, .f32⟩
  | .hbm, ⟨2, _⟩ => ⟨S1x16384x4x128, .f32⟩
  | .hbm, ⟨3, _⟩ => ⟨S1x16384x4x4x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1x4x16384x16384x4, .f32⟩
  | .hbm, ⟨9, _⟩ => ⟨S1x4x4x16384x16384, .f32⟩
  | .hbm, ⟨10, _⟩ => ⟨S1x4x4x16384x16384, .f32⟩
  | .hbm, ⟨11, _⟩ => ⟨S1x4x4x16384x16384, .f32⟩
  | .hbm, ⟨12, _⟩ => ⟨S_, .f32⟩
  | .hbm, ⟨13, _⟩ => ⟨S1x4x4x16384, .f32⟩
  | .hbm, ⟨14, _⟩ => ⟨S_, .f32⟩
  | .hbm, ⟨15, _⟩ => ⟨S1x4x4x16384, .f32⟩
  | .hbm, ⟨16, _⟩ => ⟨S1x4x4x16384, .f32⟩
  | .hbm, ⟨17, _⟩ => ⟨S1x4x4x16384x1, .f32⟩
  | .hbm, ⟨18, _⟩ => ⟨S1x4x4x16384x16384, .f32⟩
  | .hbm, ⟨19, _⟩ => ⟨S1x4x4x16384x16384, .f32⟩
  | .hbm, ⟨20, _⟩ => ⟨S1x4x4x16384x16384, .f32⟩
  | .hbm, ⟨21, _⟩ => ⟨S_, .f32⟩
  | .hbm, ⟨22, _⟩ => ⟨S1x4x4x16384, .f32⟩
  | .hbm, ⟨23, _⟩ => ⟨S1x4x4x16384x1, .f32⟩
  | .hbm, ⟨24, _⟩ => ⟨S1x4x4x16384x16384, .f32⟩
  | .hbm, ⟨25, _⟩ => ⟨S1x4x4x16384x16384, .f32⟩
  | .hbm, ⟨26, _⟩ => ⟨S1x4x128x4x16384, .f32⟩
  | .hbm, ⟨27, _⟩ => ⟨S1x16384x4x4x128, .f32⟩
  | .hbm, ⟨28, _⟩ => ⟨S16384x2048, .f32⟩
  | .hbm, ⟨29, _⟩ => ⟨S16384x2048, .bf16⟩
  | _, _ => ⟨S1x16384x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel2.lean ====
abbrev S1x16384x2048 : Shape := ⟨3, ![1, 16384, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S16384x2048 : Shape := ⟨2, ![16384, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S512x2048 : Shape := ⟨2, ![512, 2048]⟩
abbrev S2048x512 : Shape := ⟨2, ![2048, 512]⟩
abbrev S512x1 : Shape := ⟨2, ![512, 1]⟩
abbrev S512 : Shape := ⟨1, ![512]⟩
abbrev S2048x256 : Shape := ⟨2, ![2048, 256]⟩
abbrev S512x256 : Shape := ⟨2, ![512, 256]⟩
abbrev S512x512 : Shape := ⟨2, ![512, 512]⟩

abbrev nBuf : Space → Nat
  | .hbm => 21
  | .vmem => 14
  | .smem => 0
  | _ => 0

abbrev bufTy : (tb : Table) → Fin (tcTables nBuf tb) → BufTy
  | .hbm, ⟨0, _⟩ => ⟨S1x16384x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S1x2048, .f32⟩
  | .hbm, ⟨6, _⟩ => ⟨S16384x2048, .f32⟩
  | .hbm, ⟨7, _⟩ => ⟨S2048, .f32⟩
  | .hbm, ⟨8, _⟩ => ⟨S1x2048, .f32⟩
  | .hbm, ⟨9, _⟩ => ⟨S2048x5632, .f32⟩
  | .hbm, ⟨10, _⟩ => ⟨S2048x5632, .bf16⟩
  | .hbm, ⟨11, _⟩ => ⟨S2048x5632, .f32⟩
  | .hbm, ⟨12, _⟩ => ⟨S2048x5632, .bf16⟩
  | .hbm, ⟨13, _⟩ => ⟨S5632x2048, .f32⟩
  | .hbm, ⟨14, _⟩ => ⟨S5632x2048, .bf16⟩
  | .hbm, ⟨15, _⟩ => ⟨S2048, .f32⟩
  | .hbm, ⟨16, _⟩ => ⟨S1x2048, .f32⟩
  | .hbm, ⟨17, _⟩ => ⟨S_, .f32⟩
  | .hbm, ⟨18, _⟩ => ⟨S1x2048, .f32⟩
  | .hbm, ⟨19, _⟩ => ⟨S1x2048, .f32⟩
  | .hbm, ⟨20, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x1, .f32⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S1x16384x2048 : Shape := ⟨3, ![1, 16384, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S1x16384 : Shape := ⟨2, ![1, 16384]⟩
abbrev S1x16384x1 : Shape := ⟨3, ![1, 16384, 1]⟩
abbrev S1x1x2048 : Shape := ⟨3, ![1, 1, 2048]⟩
abbrev S1x16384x5632 : Shape := ⟨3, ![1, 16384, 5632]⟩
abbrev S16384x2048 : Shape := ⟨2, ![16384, 2048]⟩

abbrev nBuf : Space → Nat
  | .hbm => 61
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S1x2048, .f32⟩
  | .hbm, ⟨6, _⟩ => ⟨S2048, .f32⟩
  | .hbm, ⟨7, _⟩ => ⟨S2048x5632, .f32⟩
  | .hbm, ⟨8, _⟩ => ⟨S2048x5632, .f32⟩
  | .hbm, ⟨9, _⟩ => ⟨S5632x2048, .f32⟩
  | .hbm, ⟨10, _⟩ => ⟨S2048, .f32⟩
  | .hbm, ⟨11, _⟩ => ⟨S1x16384x2048, .f32⟩
  | .hbm, ⟨12, _⟩ => ⟨S_, .f32⟩
  | .hbm, ⟨13, _⟩ => ⟨S1x16384, .f32⟩
  | .hbm, ⟨14, _⟩ => ⟨S1x16384x1, .f32⟩
  | .hbm, ⟨15, _⟩ => ⟨S_, .f32⟩
  | .hbm, ⟨16, _⟩ => ⟨S1x16384x1, .f32⟩
  | .hbm, ⟨17, _⟩ => ⟨S1x16384x1, .f32⟩
  | .hbm, ⟨18, _⟩ => ⟨S_, .f32⟩
  | .hbm, ⟨19, _⟩ => ⟨S1x16384x1, .f32⟩
  | .hbm, ⟨20, _⟩ => ⟨S1x16384x1, .f32⟩
  | .hbm, ⟨21, _⟩ => ⟨S1x16384x1, .f32⟩
  | .hbm, ⟨22, _⟩ => ⟨S1x16384x2048, .f32⟩
  | .hbm, ⟨23, _⟩ => ⟨S1x16384x2048, .f32⟩
  | .hbm, ⟨24, _⟩ => ⟨S1x1x2048, .f32⟩
  | .hbm, ⟨25, _⟩ => ⟨S1x16384x2048, .f32⟩
  | .hbm, ⟨26, _⟩ => ⟨S1x16384x2048, .f32⟩
  | .hbm, ⟨27, _⟩ => ⟨S1x16384x5632, .f32⟩
  | .hbm, ⟨28, _⟩ => ⟨S1x16384x5632, .f32⟩
  | .hbm, ⟨29, _⟩ => ⟨S1x16384x5632, .f32⟩
  | .hbm, ⟨30, _⟩ => ⟨S_, .f32⟩
  | .hbm, ⟨31, _⟩ => ⟨S1x16384x5632, .f32⟩
  | .hbm, ⟨32, _⟩ => ⟨S1x16384x5632, .f32⟩
  | .hbm, ⟨33, _⟩ => ⟨S_, .f32⟩
  | .hbm, ⟨34, _⟩ => ⟨S1x16384x5632, .f32⟩
  | .hbm, ⟨35, _⟩ => ⟨S1x16384x5632, .f32⟩
  | .hbm, ⟨36, _⟩ => ⟨S1x16384x5632, .f32⟩
  | .hbm, ⟨37, _⟩ => ⟨S1x16384x5632, .f32⟩
  | .hbm, ⟨38, _⟩ => ⟨S1x16384x5632, .f32⟩
  | .hbm, ⟨39, _⟩ => ⟨S1x16384x2048, .f32⟩
  | .hbm, ⟨40, _⟩ => ⟨S1x16384x2048, .f32⟩
  | .hbm, ⟨41, _⟩ => ⟨S_, .f32⟩
  | .hbm, ⟨42, _⟩ => ⟨S1x16384, .f32⟩
  | .hbm, ⟨43, _⟩ => ⟨S1x16384x1, .f32⟩
  | .hbm, ⟨44, _⟩ => ⟨S_, .f32⟩
  | .hbm, ⟨45, _⟩ => ⟨S1x16384x1, .f32⟩
  | .hbm, ⟨46, _⟩ => ⟨S1x16384x1, .f32⟩
  | .hbm, ⟨47, _⟩ => ⟨S_, .f32⟩
  | .hbm, ⟨48, _⟩ => ⟨S1x16384x1, .f32⟩
  | .hbm, ⟨49, _⟩ => ⟨S1x16384x1, .f32⟩
  | .hbm, ⟨50, _⟩ => ⟨S1x16384x1, .f32⟩
  | .hbm, ⟨51, _⟩ => ⟨S1x16384x2048, .f32⟩
  | .hbm, ⟨52, _⟩ => ⟨S1x16384x2048, .f32⟩
  | .hbm, ⟨53, _⟩ => ⟨S1x1x2048, .f32⟩
  | .hbm, ⟨54, _⟩ => ⟨S1x16384x2048, .f32⟩
  | .hbm, ⟨55, _⟩ => ⟨S1x16384x2048, .f32⟩
  | .hbm, ⟨56, _⟩ => ⟨S_, .f32⟩
  | .hbm, ⟨57, _⟩ => ⟨S1x16384x2048, .f32⟩
  | .hbm, ⟨58, _⟩ => ⟨S1x16384x2048, .f32⟩
  | .hbm, ⟨59, _⟩ => ⟨S1x16384x2048, .f32⟩
  | .hbm, ⟨60, _⟩ => ⟨S16384x2048, .f32⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]
-- ==== Kernel3.lean ====
abbrev S1x16384x2048 : Shape := ⟨3, ![1, 16384, 2048]⟩
abbrev S1x16384x1024 : Shape := ⟨3, ![1, 16384, 1024]⟩
abbrev S1x16384x2x2048 : Shape := ⟨4, ![1, 16384, 2, 2048]⟩
abbrev S1x2048x2048 : Shape := ⟨3, ![1, 2048, 2048]⟩
abbrev S1x1024x2048 : Shape := ⟨3, ![1, 1024, 2048]⟩
abbrev S1x2048 : Shape := ⟨2, ![1, 2048]⟩
abbrev S16384x2048 : Shape := ⟨2, ![16384, 2048]⟩
abbrev S16384x1024 : Shape := ⟨2, ![16384, 1024]⟩
abbrev S16384x4096 : Shape := ⟨2, ![16384, 4096]⟩
abbrev S2048x2048 : Shape := ⟨2, ![2048, 2048]⟩
abbrev S1024x2048 : Shape := ⟨2, ![1024, 2048]⟩
abbrev S2048 : Shape := ⟨1, ![2048]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 24
  | .vmem => 16
  | .smem => 0
  | _ => 0

abbrev bufTy : (tb : Table) → Fin (tcTables nBuf tb) → BufTy
  | .hbm, ⟨0, _⟩ => ⟨S1x16384x2048, .f32⟩
  | .hbm, ⟨1, _⟩ => ⟨S1x16384x1024, .f32⟩
  | .hbm, ⟨2, _⟩ => ⟨S1x16384x2x2048, .f32⟩
  | .hbm, ⟨3, _⟩ => ⟨S1x16384x2048, .f32⟩
  | .hbm, ⟨4, _⟩ => ⟨S1x2048x2048, .f32⟩
  | .hbm, ⟨5, _⟩ => ⟨S1x1024x2048, .f32⟩
  | .hbm, ⟨6, _⟩ => ⟨S1x2048x2048, .f32⟩
  | .hbm, ⟨7, _⟩ => ⟨S1x2048, .f32⟩
  | .hbm, ⟨8, _⟩ => ⟨S16384x2048, .f32⟩
  | .hbm, ⟨9, _⟩ => ⟨S16384x2048, .f32⟩
  | .hbm, ⟨10, _⟩ => ⟨S16384x2048, .bf16⟩
  | .hbm, ⟨11, _⟩ => ⟨S16384x1024, .f32⟩
  | .hbm, ⟨12, _⟩ => ⟨S16384x1024, .bf16⟩
  | .hbm, ⟨13, _⟩ => ⟨S16384x4096, .f32⟩
  | .hbm, ⟨14, _⟩ => ⟨S16384x4096, .bf16⟩
  | .hbm, ⟨15, _⟩ => ⟨S2048x2048, .f32⟩
  | .hbm, ⟨16, _⟩ => ⟨S2048x2048, .bf16⟩
  | .hbm, ⟨17, _⟩ => ⟨S1024x2048, .f32⟩
  | .hbm, ⟨18, _⟩ => ⟨S1024x2048, .bf16⟩
  | .hbm, ⟨19, _⟩ => ⟨S2048x2048, .f32⟩
  | .hbm, ⟨20, _⟩ => ⟨S2048x2048, .bf16⟩
  | .hbm, ⟨21, _⟩ => ⟨S2048, .f32⟩
  | .hbm, ⟨22, _⟩ => ⟨S1x2048, .f32⟩
  | .hbm, ⟨23, _⟩ => ⟨S16384x2048, .f32⟩
  | .local _ .vmem, ⟨0, _⟩ => ⟨S256x2048, .bf16⟩
  | .local _ .vmem, ⟨1, _⟩ => ⟨S256x2048, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .f32⟩
  | .local _ .vmem, ⟨9, _⟩ => ⟨S256x2048, .f32⟩
  | .local _ .vmem, ⟨10, _⟩ => ⟨S2048x2048, .bf16⟩
  | .local _ .vmem, ⟨11, _⟩ => ⟨S1024x2048, .bf16⟩
  | .local _ .vmem, ⟨12, _⟩ => ⟨S2048x2048, .bf16⟩
  | .local _ .vmem, ⟨13, _⟩ => ⟨S1x2048, .f32⟩
  | .local _ .vmem, ⟨14, _⟩ => ⟨S256x2048, .f32⟩
  | .local _ .vmem, ⟨15, _⟩ => ⟨S256x2048, .f32⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S1x16384x2048 : Shape := ⟨3, ![1, 16384, 2048]⟩
abbrev S1x16384x1024 : Shape := ⟨3, ![1, 16384, 1024]⟩
abbrev S1x16384x2x2048 : Shape := ⟨4, ![1, 16384, 2, 2048]⟩
abbrev S1x2048x2048 : Shape := ⟨3, ![1, 2048, 2048]⟩
abbrev S1x1024x2048 : Shape := ⟨3, ![1, 1024, 2048]⟩
abbrev S1x2048 : Shape := ⟨2, ![1, 2048]⟩
abbrev S2048x2048 : Shape := ⟨2, ![2048, 2048]⟩
abbrev S1024x2048 : Shape := ⟨2, ![1024, 2048]⟩
abbrev S1x16384x1x2048 : Shape := ⟨4, ![1, 16384, 1, 2048]⟩
abbrev S2048 : Shape := ⟨1, ![2048]⟩
abbrev S_ : Shape := ⟨0, ![]⟩
abbrev S1x16384 : Shape := ⟨2, ![1, 16384]⟩
abbrev S1x16384x1 : Shape := ⟨3, ![1, 16384, 1]⟩
abbrev S1x1x2048 : Shape := ⟨3, ![1, 1, 2048]⟩
abbrev S16384x2048 : Shape := ⟨2, ![16384, 2048]⟩

abbrev nBuf : Space → Nat
  | .hbm => 40
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S1x16384x1024, .f32⟩
  | .hbm, ⟨2, _⟩ => ⟨S1x16384x2x2048, .f32⟩
  | .hbm, ⟨3, _⟩ => ⟨S1x16384x2048, .f32⟩
  | .hbm, ⟨4, _⟩ => ⟨S1x2048x2048, .f32⟩
  | .hbm, ⟨5, _⟩ => ⟨S1x1024x2048, .f32⟩
  | .hbm, ⟨6, _⟩ => ⟨S1x2048x2048, .f32⟩
  | .hbm, ⟨7, _⟩ => ⟨S1x2048, .f32⟩
  | .hbm, ⟨8, _⟩ => ⟨S2048x2048, .f32⟩
  | .hbm, ⟨9, _⟩ => ⟨S1x16384x2048, .f32⟩
  | .hbm, ⟨10, _⟩ => ⟨S1024x2048, .f32⟩
  | .hbm, ⟨11, _⟩ => ⟨S1x16384x2048, .f32⟩
  | .hbm, ⟨12, _⟩ => ⟨S1x16384x1x2048, .f32⟩
  | .hbm, ⟨13, _⟩ => ⟨S1x16384x2048, .f32⟩
  | .hbm, ⟨14, _⟩ => ⟨S1x16384x2048, .f32⟩
  | .hbm, ⟨15, _⟩ => ⟨S1x16384x1x2048, .f32⟩
  | .hbm, ⟨16, _⟩ => ⟨S1x16384x2048, .f32⟩
  | .hbm, ⟨17, _⟩ => ⟨S1x16384x2048, .f32⟩
  | .hbm, ⟨18, _⟩ => ⟨S1x16384x2048, .f32⟩
  | .hbm, ⟨19, _⟩ => ⟨S2048x2048, .f32⟩
  | .hbm, ⟨20, _⟩ => ⟨S1x16384x2048, .f32⟩
  | .hbm, ⟨21, _⟩ => ⟨S2048, .f32⟩
  | .hbm, ⟨22, _⟩ => ⟨S1x16384x2048, .f32⟩
  | .hbm, ⟨23, _⟩ => ⟨S_, .f32⟩
  | .hbm, ⟨24, _⟩ => ⟨S1x16384, .f32⟩
  | .hbm, ⟨25, _⟩ => ⟨S1x16384x1, .f32⟩
  | .hbm, ⟨26, _⟩ => ⟨S_, .f32⟩
  | .hbm, ⟨27, _⟩ => ⟨S1x16384x1, .f32⟩
  | .hbm, ⟨28, _⟩ => ⟨S1x16384x1, .f32⟩
  | .hbm, ⟨29, _⟩ => ⟨S_, .f32⟩
  | .hbm, ⟨30, _⟩ => ⟨S1x16384x1, .f32⟩
  | .hbm, ⟨31, _⟩ => ⟨S1x16384x1, .f32⟩
  | .hbm, ⟨32, _⟩ => ⟨S1x16384x1, .f32⟩
  | .hbm, ⟨33, _⟩ => ⟨S1x16384x2048, .f32⟩
  | .hbm, ⟨34, _⟩ => ⟨S1x16384x2048, .f32⟩
  | .hbm, ⟨35, _⟩ => ⟨S1x1x2048, .f32⟩
  | .hbm, ⟨36, _⟩ => ⟨S1x16384x2048, .f32⟩
  | .hbm, ⟨37, _⟩ => ⟨S1x16384x2048, .f32⟩
  | .hbm, ⟨38, _⟩ => ⟨S1x16384x2048, .f32⟩
  | .hbm, ⟨39, _⟩ => ⟨S16384x2048, .f32⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel4.lean ====
abbrev S1x16384x2048 : Shape := ⟨3, ![1, 16384, 2048]⟩
abbrev S1x2048 : Shape := ⟨2, ![1, 2048]⟩
abbrev S1x2048x8192 : Shape := ⟨3, ![1, 2048, 8192]⟩
abbrev S1x2x2048 : Shape := ⟨3, ![1, 2, 2048]⟩
abbrev S1x128 : Shape := ⟨2, ![1, 128]⟩
abbrev S32 : Shape := ⟨1, ![32]⟩
abbrev S_ : Shape := ⟨0, ![]⟩
abbrev S256 : Shape := ⟨1, ![256]⟩
abbrev S256x1 : Shape := ⟨2, ![256, 1]⟩
abbrev S1x32 : Shape := ⟨2, ![1, 32]⟩
abbrev S256x32 : Shape := ⟨2, ![256, 32]⟩
abbrev S64 : Shape := ⟨1, ![64]⟩
abbrev S64x1 : Shape := ⟨2, ![64, 1]⟩
abbrev S64x32 : Shape := ⟨2, ![64, 32]⟩
abbrev S256x128 : Shape := ⟨2, ![256, 128]⟩
abbrev S64x128 : Shape := ⟨2, ![64, 128]⟩
abbrev S256x1x128 : Shape := ⟨3, ![256, 1, 128]⟩
abbrev S1x64x128 : Shape := ⟨3, ![1, 64, 128]⟩
abbrev S256x64x128 : Shape := ⟨3, ![256, 64, 128]⟩
abbrev S16384x128 : Shape := ⟨2, ![16384, 128]⟩
abbrev S16384x2048 : Shape := ⟨2, ![16384, 2048]⟩
abbrev S1x4096 : Shape := ⟨2, ![1, 4096]⟩
abbrev S2x2048 : Shape := ⟨2, ![2, 2048]⟩
abbrev S1x8192 : Shape := ⟨2, ![1, 8192]⟩
abbrev S2048x8192 : Shape := ⟨2, ![2048, 8192]⟩
abbrev S2048x2560 : Shape := ⟨2, ![2048, 2560]⟩
abbrev S2048x20x2x2x32 : Shape := ⟨5, ![2048, 20, 2, 2, 32]⟩
abbrev S1 : Shape := ⟨1, ![1]⟩
abbrev S128 : Shape := ⟨1, ![128]⟩
abbrev S1x2x2x32 : Shape := ⟨4, ![1, 2, 2, 32]⟩
abbrev S2x128 : Shape := ⟨2, ![2, 128]⟩
abbrev S1x256 : Shape := ⟨2, ![1, 256]⟩
abbrev S2048 : Shape := ⟨1, ![2048]⟩
abbrev S256x256 : Shape := ⟨2, ![256, 256]⟩
abbrev S4x16384x128 : Shape := ⟨3, ![4, 16384, 128]⟩
abbrev S512x16384 : Shape := ⟨2, ![512, 16384]⟩
abbrev S16384x1024 : Shape := ⟨2, ![16384, 1024]⟩
abbrev S16384x4096 : Shape := ⟨2, ![16384, 4096]⟩
abbrev S1024x2048 : Shape := ⟨2, ![1024, 2048]⟩
abbrev S2048x1024 : Shape := ⟨2, ![2048, 1024]⟩
abbrev S1x1024 : Shape := ⟨2, ![1, 1024]⟩
abbrev S1024x128 : Shape := ⟨2, ![1024, 128]⟩
abbrev S1024x1024 : Shape := ⟨2, ![1024, 1024]⟩
abbrev S4x1024x128 : Shape := ⟨3, ![4, 1024, 128]⟩
abbrev S512x1024 : Shape := ⟨2, ![512, 1024]⟩
abbrev S1024 : Shape := ⟨1, ![1024]⟩
abbrev S1024x1 : Shape := ⟨2, ![1024, 1]⟩
abbrev S2048x256 : Shape := ⟨2, ![2048, 256]⟩
abbrev S1024x256 : Shape := ⟨2, ![1024, 256]⟩
abbrev S1x1024x128 : Shape := ⟨3, ![1, 1024, 128]⟩
abbrev S256x1024 : Shape := ⟨2, ![256, 1024]⟩

abbrev nBuf : Space → Nat
  | .hbm => 130
  | .vmem => 25
  | .smem => 0
  | _ => 0

abbrev hbmTy0_0 (i : Nat) : BufTy := match i % 128 with
  | 0 => ⟨S1x16384x2048, .f32⟩
  | 1 => ⟨S1x2048, .f32⟩
  | 2 => ⟨S1x2048x8192, .f32⟩
  | 3 => ⟨S1x2x2048, .f32⟩
  | 4 => ⟨S1x128, .f32⟩
  | 5 => ⟨S1x128, .f32⟩
  | 6 => ⟨S32, .f32⟩
  | 7 => ⟨S32, .f32⟩
  | 8 => ⟨S_, .f32⟩
  | 9 => ⟨S32, .f32⟩
  | 10 => ⟨S32, .f32⟩
  | 11 => ⟨S_, .f32⟩
  | 12 => ⟨S32, .f32⟩
  | 13 => ⟨S32, .f32⟩
  | 14 => ⟨S256, .f32⟩
  | 15 => ⟨S256x1, .f32⟩
  | 16 => ⟨S1x32, .f32⟩
  | 17 => ⟨S256x32, .f32⟩
  | 18 => ⟨S256x32, .f32⟩
  | 19 => ⟨S256x32, .f32⟩
  | 20 => ⟨S64, .f32⟩
  | 21 => ⟨S64x1, .f32⟩
  | 22 => ⟨S1x32, .f32⟩
  | 23 => ⟨S64x32, .f32⟩
  | 24 => ⟨S64x32, .f32⟩
  | 25 => ⟨S64x32, .f32⟩
  | 26 => ⟨S_, .f32⟩
  | 27 => ⟨S256x32, .f32⟩
  | 28 => ⟨S_, .f32⟩
  | 29 => ⟨S64x32, .f32⟩
  | 30 => ⟨S256x32, .f32⟩
  | 31 => ⟨S64x32, .f32⟩
  | 32 => ⟨S_, .f32⟩
  | 33 => ⟨S256x32, .f32⟩
  | 34 => ⟨S256x32, .f32⟩
  | 35 => ⟨S256x128, .f32⟩
  | 36 => ⟨S_, .f32⟩
  | 37 => ⟨S64x32, .f32⟩
  | 38 => ⟨S64x32, .f32⟩
  | 39 => ⟨S64x128, .f32⟩
  | 40 => ⟨S256x1x128, .f32⟩
  | 41 => ⟨S1x64x128, .f32⟩
  | 42 => ⟨S256x64x128, .f32⟩
  | 43 => ⟨S256x64x128, .f32⟩
  | 44 => ⟨S256x64x128, .f32⟩
  | 45 => ⟨S16384x128, .f32⟩
  | 46 => ⟨S256x32, .f32⟩
  | 47 => ⟨S64x32, .f32⟩
  | 48 => ⟨S_, .f32⟩
  | 49 => ⟨S256x32, .f32⟩
  | 50 => ⟨S256x32, .f32⟩
  | 51 => ⟨S256x128, .f32⟩
  | 52 => ⟨S_, .f32⟩
  | 53 => ⟨S64x32, .f32⟩
  | 54 => ⟨S64x32, .f32⟩
  | 55 => ⟨S64x128, .f32⟩
  | 56 => ⟨S256x1x128, .f32⟩
  | 57 => ⟨S1x64x128, .f32⟩
  | 58 => ⟨S256x64x128, .f32⟩
  | 59 => ⟨S256x64x128, .f32⟩
  | 60 => ⟨S256x64x128, .f32⟩
  | 61 => ⟨S16384x128, .f32⟩
  | 62 => ⟨S16384x2048, .f32⟩
  | 63 => ⟨S_, .f32⟩
  | 64 => ⟨S1x4096, .f32⟩
  | 65 => ⟨S2x2048, .f32⟩
  | 66 => ⟨S1x4096, .f32⟩
  | 67 => ⟨S1x8192, .f32⟩
  | 68 => ⟨S2048x8192, .f32⟩
  | 69 => ⟨S2048x8192, .bf16⟩
  | 70 => ⟨S2048x2560, .bf16⟩
  | 71 => ⟨S2048x20x2x2x32, .bf16⟩
  | 72 => ⟨S2048x20x2x2x32, .bf16⟩
  | 73 => ⟨S2048x2560, .bf16⟩
  | 74 => ⟨S_, .i32⟩
  | 75 => ⟨S1, .i32⟩
  | 76 => ⟨S2048x8192, .bf16⟩
  | 77 => ⟨S128, .f32⟩
  | 78 => ⟨S1x2x2x32, .f32⟩
  | 79 => ⟨S1x2x2x32, .f32⟩
  | 80 => ⟨S128, .f32⟩
  | 81 => ⟨S1x128, .f32⟩
  | 82 => ⟨S2x128, .f32⟩
  | 83 => ⟨S256, .f32⟩
  | 84 => ⟨S1x256, .f32⟩
  | 85 => ⟨S128, .f32⟩
  | 86 => ⟨S1x2x2x32, .f32⟩
  | 87 => ⟨S1x2x2x32, .f32⟩
  | 88 => ⟨S128, .f32⟩
  | 89 => ⟨S1x128, .f32⟩
  | 90 => ⟨S2x128, .f32⟩
  | 91 => ⟨S256, .f32⟩
  | 92 => ⟨S1x256, .f32⟩
  | 93 => ⟨S2048, .f32⟩
  | 94 => ⟨S1x2048, .f32⟩
  | 95 => ⟨S256, .i32⟩
  | 96 => ⟨S_, .i32⟩
  | 97 => ⟨S_, .i32⟩
  | 98 => ⟨S256, .i32⟩
  | 99 => ⟨S256, .i32⟩
  | 100 => ⟨S256, .i32⟩
  | 101 => ⟨S_, .i32⟩
  | 102 => ⟨S256, .i32⟩
  | 103 => ⟨S256, .i1⟩
  | 104 => ⟨S256, .i32⟩
  | 105 => ⟨S256, .i32⟩
  | 106 => ⟨S_, .i32⟩
  | 107 => ⟨S256, .i32⟩
  | 108 => ⟨S256, .i1⟩
  | 109 => ⟨S256, .i1⟩
  | 110 => ⟨S_, .i32⟩
  | 111 => ⟨S256, .i32⟩
  | 112 => ⟨S256, .i32⟩
  | 113 => ⟨S256, .i32⟩
  | 114 => ⟨S256x1, .i32⟩
  | 115 => ⟨S1x256, .i32⟩
  | 116 => ⟨S256x256, .i32⟩
  | 117 => ⟨S256x256, .i32⟩
  | 118 => ⟨S256x256, .i1⟩
  | 119 => ⟨S_, .f32⟩
  | 120 => ⟨S_, .f32⟩
  | 121 => ⟨S256x256, .f32⟩
  | 122 => ⟨S256x256, .f32⟩
  | 123 => ⟨S256x256, .f32⟩
  | 124 => ⟨S256x256, .bf16⟩
  | 125 => ⟨S16384x2048, .bf16⟩
  | 126 => ⟨S4x16384x128, .bf16⟩
  | 127 => ⟨S512x16384, .bf16⟩
  | _ => ⟨S1x16384x2048, .f32⟩

abbrev hbmTy0_1 (i : Nat) : BufTy := match i % 128 with
  | 0 => ⟨S16384x1024, .bf16⟩
  | 1 => ⟨S16384x4096, .bf16⟩
  | _ => ⟨S1x16384x2048, .f32⟩

abbrev hbmTy (i : Nat) : BufTy := match i / 128 with
  | 0 => hbmTy0_0 i
  | 1 => hbmTy0_1 i
  | _ => ⟨S1x16384x2048, .f32⟩

abbrev bufTy : (tb : Table) → Fin (tcTables nBuf tb) → BufTy
  | .hbm, ⟨i, _⟩ => hbmTy i
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1x1024, .f32⟩
  | .local _ .vmem, ⟨6, _⟩ => ⟨S1x1024, .f32⟩
  | .local _ .vmem, ⟨7, _⟩ => ⟨S1x256, .f32⟩
  | .local _ .vmem, ⟨8, _⟩ => ⟨S1x256, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S256x256, .bf16⟩
  | .local _ .vmem, ⟨14, _⟩ => ⟨S1024x1024, .bf16⟩
  | .local _ .vmem, ⟨15, _⟩ => ⟨S1024x1024, .bf16⟩
  | .local _ .vmem, ⟨16, _⟩ => ⟨S4x1024x128, .bf16⟩
  | .local _ .vmem, ⟨17, _⟩ => ⟨S4x1024x128, .bf16⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1024x2048, .bf16⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_c : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_c_8 : Ref sig .tc := ⟨.hbm, 96, rfl⟩
abbrev main_call0_v0 : Ref sig .tc := ⟨.hbm, 97, rfl⟩
abbrev main_call0_v1 : Ref sig .tc := ⟨.hbm, 98, rfl⟩
abbrev main_call0_v2 : Ref sig .tc := ⟨.hbm, 99, rfl⟩
abbrev main_call0_v3 : Ref sig .tc := ⟨.hbm, 100, rfl⟩
abbrev main_call0_v4 : Ref sig .tc := ⟨.hbm, 101, rfl⟩
abbrev main_call0_v5 : Ref sig .tc := ⟨.hbm, 102, rfl⟩
abbrev main_call0_v6 : Ref sig .tc := ⟨.hbm, 103, rfl⟩
abbrev main_call0_v7 : Ref sig .tc := ⟨.hbm, 104, rfl⟩
abbrev main_call0_v8 : Ref sig .tc := ⟨.hbm, 105, rfl⟩
abbrev main_call0_c : Ref sig .tc := ⟨.hbm, 106, rfl⟩
abbrev main_call0_v9 : Ref sig .tc := ⟨.hbm, 107, rfl⟩
abbrev main_call0_v10 : Ref sig .tc := ⟨.hbm, 108, rfl⟩
abbrev main_call0_v11 : Ref sig .tc := ⟨.hbm, 109, rfl⟩
abbrev main_call0_c_0 : Ref sig .tc := ⟨.hbm, 110, rfl⟩
abbrev main_call0_v12 : Ref sig .tc := ⟨.hbm, 111, rfl⟩
abbrev main_call0_v13 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_9 : Ref sig .tc := ⟨.hbm, 119, rfl⟩
abbrev main_cst_10 : Ref sig .tc := ⟨.hbm, 120, rfl⟩
abbrev main_call1_v0 : Ref sig .tc := ⟨.hbm, 121, rfl⟩
abbrev main_call1_v1 : Ref sig .tc := ⟨.hbm, 122, rfl⟩
abbrev main_v86 : Ref sig .tc := ⟨.hbm, 123, rfl⟩
abbrev main_v87 : Ref sig .tc := ⟨.hbm, 124, rfl⟩
abbrev main_v88_0 : Ref sig .tc := ⟨.hbm, 125, rfl⟩
abbrev main_v88_1 : Ref sig .tc := ⟨.hbm, 126, rfl⟩
abbrev main_v88_2 : Ref sig .tc := ⟨.hbm, 127, rfl⟩
abbrev main_v88_3 : Ref sig .tc := ⟨.hbm, 128, rfl⟩
abbrev main_v88_4 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c2_i32 : BitVec 32 := 2#32
  let v3 : BitVec 1 := Scalar.cmpi .slt arg1 c2_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32_2 : BitVec 32 := 2#32
  let v6 : BitVec 1 := Scalar.cmpi .eq arg1 c2_i32_2
  let v7 : BitVec 32 := Scalar.extui v6
  let c0_i32_3 : BitVec 32 := 0#32
  let v8 : BitVec 1 := Scalar.cmpi .ne v7 c0_i32_3
  v8

def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_4 : BitVec 32 := 0#32
  let v11 : BitVec 1 := Scalar.cmpi .ne v10 c0_i32_4
  v11

def k0_cond5 (i : grid0.Coords) : BitVec 1 :=
  let arg1 : BitVec 32 := BitVec.ofNat 32 (i 1).val
  let c3_i32_5 : BitVec 32 := 3#32
  let v12 : BitVec 1 := Scalar.cmpi .sgt arg1 c3_i32_5
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  ![arg0.toNat, v0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4x1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference4Ideal.lean ====
abbrev S1x16384x2048 : Shape := ⟨3, ![1, 16384, 2048]⟩
abbrev S1x2048 : Shape := ⟨2, ![1, 2048]⟩
abbrev S1x2048x8192 : Shape := ⟨3, ![1, 2048, 8192]⟩
abbrev S1x2x2048 : Shape := ⟨3, ![1, 2, 2048]⟩
abbrev S1x128 : Shape := ⟨2, ![1, 128]⟩
abbrev S2048 : Shape := ⟨1, ![2048]⟩
abbrev S_ : Shape := ⟨0, ![]⟩
abbrev S1x16384 : Shape := ⟨2, ![1, 16384]⟩
abbrev S1x16384x1 : Shape := ⟨3, ![1, 16384, 1]⟩
abbrev S1x1x2048 : Shape := ⟨3, ![1, 1, 2048]⟩
abbrev S2048x8192 : Shape := ⟨2, ![2048, 8192]⟩
abbrev S1x16384x8192 : Shape := ⟨3, ![1, 16384, 8192]⟩
abbrev S1x16384x512 : Shape := ⟨3, ![1, 16384, 512]⟩
abbrev S1x16384x1024 : Shape := ⟨3, ![1, 16384, 1024]⟩
abbrev S1x16384x4096 : Shape := ⟨3, ![1, 16384, 4096]⟩
abbrev S1x16384x2x2048 : Shape := ⟨4, ![1, 16384, 2, 2048]⟩
abbrev S2x2048 : Shape := ⟨2, ![2, 2048]⟩
abbrev S1x1x2x2048 : Shape := ⟨4, ![1, 1, 2, 2048]⟩
abbrev S16384x512 : Shape := ⟨2, ![16384, 512]⟩
abbrev S512x16384 : Shape := ⟨2, ![512, 16384]⟩
abbrev S16384x1024 : Shape := ⟨2, ![16384, 1024]⟩
abbrev S16384x4096 : Shape := ⟨2, ![16384, 4096]⟩

abbrev nBuf : Space → Nat
  | .hbm => 50
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S1x2048, .f32⟩
  | .hbm, ⟨2, _⟩ => ⟨S1x2048x8192, .f32⟩
  | .hbm, ⟨3, _⟩ => ⟨S1x2x2048, .f32⟩
  | .hbm, ⟨4, _⟩ => ⟨S1x128, .f32⟩
  | .hbm, ⟨5, _⟩ => ⟨S1x128, .f32⟩
  | .hbm, ⟨6, _⟩ => ⟨S2048, .f32⟩
  | .hbm, ⟨7, _⟩ => ⟨S1x16384x2048, .f32⟩
  | .hbm, ⟨8, _⟩ => ⟨S_, .f32⟩
  | .hbm, ⟨9, _⟩ => ⟨S1x16384, .f32⟩
  | .hbm, ⟨10, _⟩ => ⟨S1x16384x1, .f32⟩
  | .hbm, ⟨11, _⟩ => ⟨S_, .f32⟩
  | .hbm, ⟨12, _⟩ => ⟨S1x16384x1, .f32⟩
  | .hbm, ⟨13, _⟩ => ⟨S1x16384x1, .f32⟩
  | .hbm, ⟨14, _⟩ => ⟨S_, .f32⟩
  | .hbm, ⟨15, _⟩ => ⟨S1x16384x1, .f32⟩
  | .hbm, ⟨16, _⟩ => ⟨S1x16384x1, .f32⟩
  | .hbm, ⟨17, _⟩ => ⟨S1x16384x1, .f32⟩
  | .hbm, ⟨18, _⟩ => ⟨S1x16384x2048, .f32⟩
  | .hbm, ⟨19, _⟩ => ⟨S1x16384x2048, .f32⟩
  | .hbm, ⟨20, _⟩ => ⟨S1x1x2048, .f32⟩
  | .hbm, ⟨21, _⟩ => ⟨S1x16384x2048, .f32⟩
  | .hbm, ⟨22, _⟩ => ⟨S1x16384x2048, .f32⟩
  | .hbm, ⟨23, _⟩ => ⟨S2048x8192, .f32⟩
  | .hbm, ⟨24, _⟩ => ⟨S1x16384x8192, .f32⟩
  | .hbm, ⟨25, _⟩ => ⟨S1x16384x2048, .f32⟩
  | .hbm, ⟨26, _⟩ => ⟨S1x16384x512, .f32⟩
  | .hbm, ⟨27, _⟩ => ⟨S1x16384x512, .f32⟩
  | .hbm, ⟨28, _⟩ => ⟨S1x16384x1024, .f32⟩
  | .hbm, ⟨29, _⟩ => ⟨S1x16384x4096, .f32⟩
  | .hbm, ⟨30, _⟩ => ⟨S1x16384x2x2048, .f32⟩
  | .hbm, ⟨31, _⟩ => ⟨S2x2048, .f32⟩
  | .hbm, ⟨32, _⟩ => ⟨S1x1x2x2048, .f32⟩
  | .hbm, ⟨33, _⟩ => ⟨S1x16384x2x2048, .f32⟩
  | .hbm, ⟨34, _⟩ => ⟨S1x16384x2x2048, .f32⟩
  | .hbm, ⟨35, _⟩ => ⟨S1x16384x2x2048, .f32⟩
  | .hbm, ⟨36, _⟩ => ⟨S1x16384x2x2048, .f32⟩
  | .hbm, ⟨37, _⟩ => ⟨S_, .f32⟩
  | .hbm, ⟨38, _⟩ => ⟨S1x16384x2x2048, .f32⟩
  | .hbm, ⟨39, _⟩ => ⟨S1x16384x2x2048, .f32⟩
  | .hbm, ⟨40, _⟩ => ⟨S_, .f32⟩
  | .hbm, ⟨41, _⟩ => ⟨S1x16384x2x2048, .f32⟩
  | .hbm, ⟨42, _⟩ => ⟨S1x16384x2x2048, .f32⟩
  | .hbm, ⟨43, _⟩ => ⟨S16384x512, .f32⟩
  | .hbm, ⟨44, _⟩ => ⟨S512x16384, .f32⟩
  | .hbm, ⟨45, _⟩ => ⟨S512x16384, .bf16⟩
  | .hbm, ⟨46, _⟩ => ⟨S16384x1024, .f32⟩
  | .hbm, ⟨47, _⟩ => ⟨S16384x1024, .bf16⟩
  | .hbm, ⟨48, _⟩ => ⟨S16384x4096, .f32⟩
  | .hbm, ⟨49, _⟩ => ⟨S16384x4096, .bf16⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Proof.Attention.Row.lean ====
/-
  Attention of one query over all 16384 keys, over the extended reals, as the call computes it: a key's weight is two to the
  power of its score, and the values' weighted sum is divided by the sum of the weights.
-/
module

public import Idealize.ShloMosaic.Lib.Pointwise

@[expose] public section

noncomputable section

open Idealize.ShloMosaic

namespace Cert.Attention

/-- The factor of the queries: the head's `1 / √128`, and `1 / log 2` because the weights are powers of two. -/
def scale : EReal := (((Real.sqrt 128)⁻¹ * (Real.log 2)⁻¹ : ℝ) : EReal)

/-- The weight of key `k` for query `q`. -/
def weight (q k : Fin 128 → EReal) : EReal := Ideal.exp2 (∑ j, k j * (q j * scale))

/-- One component of the attention's result: the mean of the values `v` under the weights. -/
def mean (q : Fin 128 → EReal) (k : Fin 16384 → Fin 128 → EReal) (v : Fin 16384 → EReal) : EReal :=
  Ideal.div (∑ t, v t * weight q (k t)) (∑ t, weight q (k t))

end Cert.Attention

end
-- ==== Proof.Attention.Block.lean ====
/-
  What one grid point of the attention call computes: for 512 queries of the four heads that share one key head, the mean of
  the values under the weights. The keys come in two chunks of 8192; the sum of the weights and the weighted sum of the values
  start at zero and take one step for each chunk.
-/
module

public import proofs.«01_k».proof.Proof.Attention.Row
public import proofs.«01_k».proof.Proof.Gen.KernelIdeal.Value
public import Idealize.ShloMosaic.Lib.Pipeline.ReadBack

@[expose] public section

set_option maxRecDepth 16384

noncomputable section

open Idealize.ShloMosaic

namespace Cert.KernelIdeal.Attention

open Cert.KernelIdeal Cert.KernelIdeal.Gen

/-! ## One head -/

/-- The weights of a chunk's keys for the queries of one head. -/
def weights (k : Vec Ideal S1x8192x128 .bf16) (q : Vec Ideal S512x128 .f32) : FVec Ideal S8192x512 .f32 := k0_pay8 k q

/-- A chunk's step of the sum of the weights. -/
def sumStep (k : Vec Ideal S1x8192x128 .bf16) (q : Vec Ideal S512x128 .f32) (l : Vec Ideal S1x1x512 .f32) :
    FVec Ideal S1x1x512 .f32 := k0_pay10 (k0_pay9 k q l)

/-- A chunk's step of the weighted sum of the values. -/
def accStep (k : Vec Ideal S1x8192x128 .bf16) (v : Vec Ideal S128x8192 .bf16) (q : Vec Ideal S512x128 .f32)
    (a : Vec Ideal S1x128x512 .f32) : FVec Ideal S1x128x512 .f32 := k0_pay11 (k0_pay6 v) (weights k q) a

/-- One head's result: both chunks' steps, then the quotient. -/
def head (k0 k1 : Vec Ideal S1x8192x128 .bf16) (v0 v1 : Vec Ideal S128x8192 .bf16) (q : Vec Ideal S512x128 .f32)
    (a : Vec Ideal S1x128x512 .f32) (l : Vec Ideal S1x1x512 .f32) : FVec Ideal S512x128 .bf16 :=
  k0_pay43 (accStep k1 v1 q (accStep k0 v0 q a)) (sumStep k1 q (sumStep k0 q l))

/-- The factor of the queries is the named constant. -/
theorem scale_eq : (Named.named κ "q_scale" 0x3E0293EE#32 : Ideal .f32) = Cert.Attention.scale :=
  IdealRules.named_const.ideal_named_scalar _ _ _ _ rfl

/-- A weight, from the query's and the key's components. -/
theorem weights_apply (k : Vec Ideal S1x8192x128 .bf16) (q : Vec Ideal S512x128 .f32) (t : Fin 8192) (r : Fin 512) :
    weights k q (ix2 t r) = Cert.Attention.weight (fun j => q (ix2 r j)) (fun j => k (ix3 0 t j)) := by
  unfold weights k0_pay8 k0_pay5
  pointwise [scale_eq]
  rfl

/-- A step of the sum of the weights adds the chunk's weights. -/
theorem sumStep_apply (k : Vec Ideal S1x8192x128 .bf16) (q : Vec Ideal S512x128 .f32) (l : Vec Ideal S1x1x512 .f32)
    (r : Fin 512) :
    sumStep k q l (ix3 0 0 r)
      = l (ix3 0 0 r) + ∑ t : Fin 8192, Cert.Attention.weight (fun j => q (ix2 r j)) (fun j => k (ix3 0 t j)) := by
  have h : ∀ t, k0_pay8 k q (ix2 t r) = _ := fun t => weights_apply k q t r
  unfold sumStep k0_pay10 k0_pay9
  pointwise [h]

/-- A step of the weighted sum adds the chunk's values times their weights. -/
theorem accStep_apply (k : Vec Ideal S1x8192x128 .bf16) (v : Vec Ideal S128x8192 .bf16) (q : Vec Ideal S512x128 .f32)
    (a : Vec Ideal S1x128x512 .f32) (d : Fin 128) (r : Fin 512) :
    accStep k v q a (ix3 0 d r)
      = a (ix3 0 d r) + ∑ t : Fin 8192, v (ix2 d t)
          * Cert.Attention.weight (fun j => q (ix2 r j)) (fun j => k (ix3 0 t j)) := by
  unfold accStep k0_pay11 k0_pay6
  pointwise [weights_apply]

/-- The head's result is the quotient of the two sums, transposed. -/
theorem head_apply (k0 k1 : Vec Ideal S1x8192x128 .bf16) (v0 v1 : Vec Ideal S128x8192 .bf16) (q : Vec Ideal S512x128 .f32)
    (a : Vec Ideal S1x128x512 .f32) (l : Vec Ideal S1x1x512 .f32) (r : Fin 512) (d : Fin 128) :
    head k0 k1 v0 v1 q a l (ix2 r d)
      = Ideal.div (accStep k1 v1 q (accStep k0 v0 q a) (ix3 0 d r)) (sumStep k1 q (sumStep k0 q l) (ix3 0 0 r)) := by
  unfold head k0_pay43
  pointwise

/-! ## The block -/

/-- The block at one index: the mean for the query's head, which column `e` belongs to, over all keys. -/
def block (x0 : Vec Ideal S512x512 .f32) (x1 : Vec Ideal S1x16384x128 .bf16) (x2 : Vec Ideal S128x16384 .bf16) :
    Vec Ideal S512x512 .bf16 := fun i =>
  Cert.Attention.mean (fun j => x0 (ix2 (i 0) ⟨128 * ((i 1).val / 128) + j.val, by have h : (i 1).val < 512 := (i 1).isLt; omega⟩))
    (fun t j => x1 (ix3 0 t j)) (fun t => x2 (ix2 ⟨(i 1).val % 128, Nat.mod_lt _ (by norm_num)⟩ t))

/-- The sums start at zero. -/
theorem zeroSum_apply (i : S4x1x512.Idx) : (k0_pay3 (F := Ideal) i : EReal) = 0 := by
  obtain ⟨h, u, r, rfl⟩ : ∃ (h : Fin 4) (u : Fin 1) (r : Fin 512), i = ix3 h u r := ⟨i 0, i 1, i 2, eq_ix3 i⟩
  unfold k0_pay3
  pointwise

/-- The weighted sums start at zero. -/
theorem zeroAcc_apply (i : S4x128x512.Idx) : (k0_pay4 (F := Ideal) i : EReal) = 0 := by
  obtain ⟨h, u, r, rfl⟩ : ∃ (h : Fin 4) (u : Fin 128) (r : Fin 512), i = ix3 h u r := ⟨i 0, i 1, i 2, eq_ix3 i⟩
  unfold k0_pay4
  pointwise

/-- The first chunk of the keys. -/
def keys0 (x1 : Vec Ideal S1x16384x128 .bf16) : Vec Ideal S1x8192x128 .bf16 :=
  View.ld x1 (Rect.unit ![0, 0, 0] S1x8192x128.size inb_S1x16384x128_S1x8192x128_0_0_0)

/-- The second chunk of the keys. -/
def keys1 (x1 : Vec Ideal S1x16384x128 .bf16) : Vec Ideal S1x8192x128 .bf16 :=
  View.ld x1 (Rect.unit ![0, 8192, 0] S1x8192x128.size inb_S1x16384x128_S1x8192x128_0_8192_0)

/-- The first chunk of the values. -/
def values0 (x2 : Vec Ideal S128x16384 .bf16) : Vec Ideal S128x8192 .bf16 :=
  View.ld x2 (Rect.unit ![0, 0] S128x8192.size inb_S128x16384_S128x8192_0_0)

/-- The second chunk of the values. -/
def values1 (x2 : Vec Ideal S128x16384 .bf16) : Vec Ideal S128x8192 .bf16 :=
  View.ld x2 (Rect.unit ![0, 8192] S128x8192.size inb_S128x16384_S128x8192_0_8192)

/-- A key of the first chunk. -/
theorem key0_apply (x1 : Vec Ideal S1x16384x128 .bf16) (t : Fin 8192) (j : Fin 128) :
    keys0 x1 (ix3 0 t j)
      = x1 (ix3 0 ⟨t.val, by omega⟩ j) :=
  congrArg x1 (funext fun a => Fin.ext (by
    match a with
    | ⟨0, _⟩ => show 0 + 1 * 0 = 0; omega
    | ⟨1, _⟩ => show 0 + 1 * t.val = t.val; omega
    | ⟨2, _⟩ => show 0 + 1 * j.val = j.val; omega))

/-- A key of the second chunk. -/
theorem key1_apply (x1 : Vec Ideal S1x16384x128 .bf16) (t : Fin 8192) (j : Fin 128) :
    keys1 x1 (ix3 0 t j)
      = x1 (ix3 0 ⟨8192 + t.val, by omega⟩ j) :=
  congrArg x1 (funext fun a => Fin.ext (by
    match a with
    | ⟨0, _⟩ => show 0 + 1 * 0 = 0; omega
    | ⟨1, _⟩ => show 8192 + 1 * t.val = 8192 + t.val; omega
    | ⟨2, _⟩ => show 0 + 1 * j.val = j.val; omega))

/-- A value of the first chunk. -/
theorem value0_apply (x2 : Vec Ideal S128x16384 .bf16) (d : Fin 128) (t : Fin 8192) :
    values0 x2 (ix2 d t) = x2 (ix2 d ⟨t.val, by omega⟩) :=
  congrArg x2 (funext fun a => Fin.ext (by
    match a with
    | ⟨0, _⟩ => show 0 + 1 * d.val = d.val; omega
    | ⟨1, _⟩ => show 0 + 1 * t.val = t.val; omega))

/-- A value of the second chunk. -/
theorem value1_apply (x2 : Vec Ideal S128x16384 .bf16) (d : Fin 128) (t : Fin 8192) :
    values1 x2 (ix2 d t)
      = x2 (ix2 d ⟨8192 + t.val, by omega⟩) :=
  congrArg x2 (funext fun a => Fin.ext (by
    match a with
    | ⟨0, _⟩ => show 0 + 1 * d.val = d.val; omega
    | ⟨1, _⟩ => show 8192 + 1 * t.val = 8192 + t.val; omega))

/-- The result of the head at column `o` is the block's columns from `o` on. -/
theorem head_eq (x0 : Vec Ideal S512x512 .f32) (x1 : Vec Ideal S1x16384x128 .bf16) (x2 : Vec Ideal S128x16384 .bf16)
    (a : Vec Ideal S1x128x512 .f32) (l : Vec Ideal S1x1x512 .f32) (ha : ∀ i, (a i : EReal) = 0) (hl : ∀ i, (l i : EReal) = 0)
    (o : ℕ) (ho : o % 128 = 0) (inb : ∀ b, (![0, o] : Fin 2 → ℕ) b + S512x128.size b ≤ S512x512.size b) (y : S512x128.Idx) :
    head (keys0 x1)
        (keys1 x1)
        (values0 x2)
        (values1 x2)
        (View.ld x0 (Rect.unit ![0, o] S512x128.size inb)) a l y
      = block x0 x1 x2 ((Rect.unit (s := S512x512) ![0, o] S512x128.size inb).emb y) := by
  obtain ⟨r, d, rfl⟩ : ∃ (r : Fin 512) (d : Fin 128), y = ix2 r d := ⟨y 0, y 1, eq_ix2 y⟩
  have hq : ∀ j : Fin 128, View.ld x0 (Rect.unit ![0, o] S512x128.size inb) (ix2 r j)
      = x0 (ix2 r ⟨o + j.val, by have h : o + 128 ≤ 512 := inb 1; omega⟩) := fun j =>
    congrArg x0 (funext fun b => Fin.ext (by
      match b with
      | ⟨0, _⟩ => show 0 + 1 * r.val = r.val; omega
      | ⟨1, _⟩ => show o + 1 * j.val = o + j.val; omega))
  have hi : (Rect.unit (s := S512x512) ![0, o] S512x128.size inb).emb (ix2 r d)
      = ix2 r ⟨o + d.val, by have h : o + 128 ≤ 512 := inb 1; omega⟩ := funext fun b => Fin.ext (by
      match b with
      | ⟨0, _⟩ => show 0 + 1 * r.val = r.val; omega
      | ⟨1, _⟩ => show o + 1 * d.val = o + d.val; omega)
  rw [hi, head_apply, accStep_apply, accStep_apply, sumStep_apply, sumStep_apply, ha, hl, zero_add, zero_add]
  simp only [hq, key0_apply, key1_apply, value0_apply, value1_apply]
  unfold block Cert.Attention.mean
  rw [Fin.sum_univ_two_halves 8192 8192 rfl, Fin.sum_univ_two_halves 8192 8192 rfl]
  have hd : (⟨(o + d.val) % 128, Nat.mod_lt _ (by norm_num)⟩ : Fin 128) = d := Fin.ext (by show (o + d.val) % 128 = d.val; omega)
  have hj : ∀ j : Fin 128, 128 * ((o + d.val) / 128) + j.val = o + j.val := fun j => by omega
  simp only [ix2, hd, hj]

variable (c : Dev nD) (i : grid0.Coords) (arg2 : Memref sig .tc .vmem S512x512 .f32) (harg2 : arg2.IsWhole)
  (arg3 : Memref sig .tc .vmem S1x16384x128 .bf16) (harg3 : arg3.IsWhole) (arg4 : Memref sig .tc .vmem S128x16384 .bf16)
  (harg4 : arg4.IsWhole) (arg5 : Memref sig .tc .vmem S512x512 .bf16) (harg5 : arg5.IsWhole)
  (arg6 : Memref sig .tc .vmem S4x1x512 .f32) (harg6 : arg6.IsWhole) (arg7 : Memref sig .tc .vmem S4x128x512 .f32)
  (harg7 : arg7.IsWhole)
  (x0 : Vec Ideal S512x512 .f32) (x1 : Vec Ideal S1x16384x128 .bf16) (x2 : Vec Ideal S128x16384 .bf16)

/-- What a grid point leaves in its output block. -/
theorem block_eq : out0_A_3 c i arg2 harg2 arg3 harg3 arg4 harg4 arg5 harg5 arg6 harg6 arg7 harg7 x0 x1 x2 = block x0 x1 x2 := by
  have hc := cover0_A_3 c i arg2 harg2 arg3 harg3 arg4 harg4 arg5 harg5 arg6 harg6 arg7 harg7 x0 x1 x2
  unfold out0_A_3
  rw [View.read_writes_eq_canon _ _ _ hc]
  funext y
  refine View.canon_apply_of_pieces (block x0 x1 x2) _ ?_ y (hc y)
  unfold kernelRun0_A
  dsimp only
  sl_unfold_words
  simp (discharger := decide) only [View.readAt_eq_ld, harg2.read_unread, harg3.read_unread, harg4.read_unread,
    ↓View.readCov_cons_toLoadRect, ↓View.readCov_skip, ↓View.readCov_fill]
  intro p hp
  simp only [List.mem_cons, List.not_mem_nil, or_false] at hp
  rcases hp with rfl | rfl | rfl | rfl
  · exact head_eq x0 x1 x2 _ _ (fun _ => zeroAcc_apply _) (fun _ => zeroSum_apply _) 384 rfl inb_S512x512_S512x128_0_384
  · exact head_eq x0 x1 x2 _ _ (fun _ => zeroAcc_apply _) (fun _ => zeroSum_apply _) 256 rfl inb_S512x512_S512x128_0_256
  · exact head_eq x0 x1 x2 _ _ (fun _ => zeroAcc_apply _) (fun _ => zeroSum_apply _) 128 rfl inb_S512x512_S512x128_0_128
  · exact head_eq x0 x1 x2 _ _ (fun _ => zeroAcc_apply _) (fun _ => zeroSum_apply _) 0 rfl inb_S512x512_S512x128_0_0

end Cert.KernelIdeal.Attention

end
-- ==== Proof.Layout.lean ====
/-
  Reshapes of the host code read at an index, for any element type and any sizes: the unit batch axis dropped, a row of
  pieces flattened, a row given a unit axis, positions and heads swapped.
-/
module

public import Idealize.ShloMosaic.Lib.Pointwise
public import Idealize.ShloMosaic.Lib.Pipeline.Value

@[expose] public section

noncomputable section

open Idealize.ShloMosaic

namespace Cert.Layout

variable {α : Type}

/-- A three-axis array whose first axis is a unit, viewed with two axes. -/
theorem drop_batch {n k : Nat} (x : (⟨3, ![1, n, k]⟩ : Shape).Idx → α)
    (h : (⟨3, ![1, n, k]⟩ : Shape).ShapeCasts ⟨2, ![n, k]⟩) (r : Fin n) (j : Fin k) :
    shapeCast ⟨2, ![n, k]⟩ x h (ix2 r j) = x (ix3 0 r j) := by
  refine shapeCast_apply x h (ix2 r j) (ix3 0 r j) ?_
  rw [Shape.rowMajor_val_three, Shape.rowMajor_val_two]
  show (0 * n + r.val) * k + j.val = r.val * k + j.val
  rw [Nat.zero_mul, Nat.zero_add]

/-- A two-axis array whose first axis is a unit, viewed with one axis. -/
theorem drop_row {k : Nat} (x : (⟨2, ![1, k]⟩ : Shape).Idx → α)
    (h : (⟨2, ![1, k]⟩ : Shape).ShapeCasts ⟨1, ![k]⟩) (j : Fin k) :
    shapeCast ⟨1, ![k]⟩ x h (ix1 j) = x (ix2 0 j) := by
  refine shapeCast_apply x h (ix1 j) (ix2 0 j) ?_
  rw [Shape.rowMajor_val_two, Shape.rowMajor_val_one]
  show 0 * k + j.val = j.val
  rw [Nat.zero_mul, Nat.zero_add]

/-- A one-axis array given a unit axis in front. -/
theorem add_row {k : Nat} (x : (⟨1, ![k]⟩ : Shape).Idx → α)
    (h : (⟨1, ![k]⟩ : Shape).ShapeCasts ⟨2, ![1, k]⟩) (j : Fin k) :
    shapeCast ⟨2, ![1, k]⟩ x h (ix2 0 j) = x (ix1 j) := by
  refine shapeCast_apply x h (ix2 0 j) (ix1 j) ?_
  rw [Shape.rowMajor_val_two, Shape.rowMajor_val_one]
  show j.val = 0 * k + j.val
  rw [Nat.zero_mul, Nat.zero_add]

/-- A batch of rows of `p` pieces of `k` elements, flattened to rows of `q = p * k` elements. -/
theorem flatten_row {n p k q : Nat} (hq : q = p * k) (x : (⟨4, ![1, n, p, k]⟩ : Shape).Idx → α)
    (h : (⟨4, ![1, n, p, k]⟩ : Shape).ShapeCasts ⟨2, ![n, q]⟩) (r : Fin n) (b : Fin p) (j : Fin k) (l : Fin q)
    (hl : l.val = b.val * k + j.val) :
    shapeCast ⟨2, ![n, q]⟩ x h (ix2 r l) = x (ix4 0 r b j) := by
  refine shapeCast_apply x h (ix2 r l) (ix4 0 r b j) ?_
  rw [Shape.rowMajor_val_four, Shape.rowMajor_val_two]
  show ((0 * n + r.val) * p + b.val) * k + j.val = r.val * q + l.val
  rw [hl, hq, Nat.zero_mul, Nat.zero_add, Nat.add_mul, Nat.mul_assoc, Nat.add_assoc]

/-- A four-axis array whose first axis is a unit, viewed with three axes, the first two of which are then swapped. -/
theorem swap_heads {n p k : Nat} (x : (⟨4, ![1, n, p, k]⟩ : Shape).Idx → α)
    (h : (⟨4, ![1, n, p, k]⟩ : Shape).ShapeCasts ⟨3, ![n, p, k]⟩)
    (h' : (⟨3, ![n, p, k]⟩ : Shape).Transposes [1, 0, 2] ⟨3, ![p, n, k]⟩) (b : Fin p) (r : Fin n) (j : Fin k) :
    transpose ⟨3, ![p, n, k]⟩ [1, 0, 2] (shapeCast ⟨3, ![n, p, k]⟩ x h) h' (ix3 b r j) = x (ix4 0 r b j) := by
  rw [transpose_apply _ _ h' (ix3 b r j) (ix3 r b j) fun c => match c with | ⟨0, _⟩ => rfl | ⟨1, _⟩ => rfl | ⟨2, _⟩ => rfl]
  refine shapeCast_apply x h (ix3 r b j) (ix4 0 r b j) ?_
  rw [Shape.rowMajor_val_four, Shape.rowMajor_val_three]
  show ((0 * n + r.val) * p + b.val) * k + j.val = (r.val * p + b.val) * k + j.val
  rw [Nat.zero_mul, Nat.zero_add]

end Cert.Layout

end
-- ==== Proof.Attention.Array.lean ====
/-
  What the attention call's result array holds: grid point `t` of 128 takes the 512 queries from `512 (t % 32)` on and the four
  heads of key head `t / 32`, so column `e` of a row is the mean for head `e / 128`, over the keys of head `e / 512`, of the
  values' component `e % 128`.
-/
module

public import proofs.«01_k».proof.Proof.Attention.Block
public import proofs.«01_k».proof.Proof.Layout
public import Idealize.ShloMosaic.Lib.StableHlo.Run
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.KernelIdeal.Attention

open Cert.KernelIdeal Cert.KernelIdeal.Gen

variable (m : (ℓ : Loc nD τ sig) → Buf (Elt Ideal) ℓ)

/-! ## The arrays the host code prepares -/

/-- The queries, the heads of a position side by side. -/
theorem v0_apply (c : Dev nD) (r : Fin 16384) (l : Fin 2048) (h : Fin 16) (j : Fin 128) (hl : l.val = h.val * 128 + j.val) :
    (V m c main_v0 (ix2 r l) : EReal) = m ((c : Thread nD τ).loc main_arg0) (ix4 0 r h j) := by
  have e : (V m c main_v0 : Vec Ideal S16384x2048 .f32) = shapeCast S16384x2048 (m ((c : Thread nD τ).loc main_arg0)) shapeCasts_S1x16384x16x128_S16384x2048 := by
    unfold V; after_results_simp <;> rfl
  rw [e]
  exact Cert.Layout.flatten_row (p := 16) (k := 128) rfl _ shapeCasts_S1x16384x16x128_S16384x2048 r h j l hl

/-- The keys, head by head. -/
theorem v3_apply (c : Dev nD) (g : Fin 4) (t : Fin 16384) (j : Fin 128) :
    (V m c main_v3 (ix3 g t j) : EReal) = m ((c : Thread nD τ).loc main_arg1) (ix4 0 t g j) := by
  have e : (V m c main_v3 : Vec Ideal S4x16384x128 .bf16)
      = truncf (F := Ideal) .bf16 (transpose S4x16384x128 [1, 0, 2] (shapeCast S16384x4x128 (m ((c : Thread nD τ).loc main_arg1)) shapeCasts_S1x16384x4x128_S16384x4x128) transposes_S16384x4x128_S4x16384x128_1_0_2) bitsLt_bf16_f32 := by
    unfold V; after_results_simp <;> rfl
  rw [e]
  exact Cert.Layout.swap_heads _ shapeCasts_S1x16384x4x128_S16384x4x128 transposes_S16384x4x128_S4x16384x128_1_0_2 g t j

/-- The values, one row for each head and component. -/
theorem v6_apply (c : Dev nD) (l : Fin 512) (t : Fin 16384) (g : Fin 4) (d : Fin 128) (hl : l.val = g.val * 128 + d.val) :
    (V m c main_v6 (ix2 l t) : EReal) = m ((c : Thread nD τ).loc main_arg2) (ix4 0 t g d) := by
  have e : (V m c main_v6 : Vec Ideal S512x16384 .bf16)
      = transpose S512x16384 [1, 0] (truncf (F := Ideal) .bf16 (shapeCast S16384x512 (m ((c : Thread nD τ).loc main_arg2)) shapeCasts_S1x16384x4x128_S16384x512) bitsLt_bf16_f32) transposes_S16384x512_S512x16384_1_0 := by
    unfold V; after_results_simp <;> rfl
  rw [e, transpose_apply _ _ transposes_S16384x512_S512x16384_1_0 (ix2 l t) (ix2 t l) fun c => match c with | ⟨0, _⟩ => rfl | ⟨1, _⟩ => rfl]
  exact Cert.Layout.flatten_row (p := 4) (k := 128) rfl _ shapeCasts_S1x16384x4x128_S16384x512 t g d l hl

/-! ## The input blocks of a grid point, in terms of the arguments -/

/-- The grid has 32 points for each of the four key heads. -/
theorem points : cfg0.N = 128 := N_0

/-- Query `r` of grid point `t`, as a position. -/
abbrev rowOf (t : Fin cfg0.N) (r : Fin 512) : Fin 16384 := ⟨512 * (t.val % 32) + r.val, by have := points; have := t.isLt; omega⟩

/-- The key head of grid point `t`. -/
abbrev groupOf (t : Fin cfg0.N) : Fin 4 := ⟨t.val / 32, by have := points; have := t.isLt; omega⟩

/-- Column `e` of grid point `t`'s block, as a column of the result. -/
abbrev colOf (t : Fin cfg0.N) (e : Fin 512) : Fin 2048 :=
  ⟨512 * (t.val / 32) + e.val, by have : t.val / 32 < 4 := (groupOf t).isLt; omega⟩

/-- Where each window's block lies. -/
theorem index_facts : ∀ t : Fin grid0.N,
    win0_0.index t 0 = t.val % 32 ∧ win0_0.index t 1 = t.val / 32 ∧ win0_1.index t 0 = t.val / 32 ∧ win0_1.index t 1 = 0
    ∧ win0_1.index t 2 = 0 ∧ win0_2.index t 0 = t.val / 32 ∧ win0_2.index t 1 = 0 ∧ win0_3.index t 0 = t.val % 32
    ∧ win0_3.index t 1 = t.val / 32 := by
  decide +kernel

/-- The queries of grid point `t`. -/
theorem block0_apply (c : Dev nD) (t : Fin cfg0.N) (r l : Fin 512) (h : Fin 16) (j : Fin 128)
    (hl : 512 * (t.val / 32) + l.val = h.val * 128 + j.val) :
    (iblk m c 0 t (ix2 r l) : EReal) = m ((c : Thread nD τ).loc main_arg0) (ix4 0 (rowOf t r) h j) := by
  have e : (iblk m c 0 t (ix2 r l) : EReal) = V m c main_v0 (ix2 (rowOf t r) (colOf t l)) := by
    obtain ⟨h0, h1, -⟩ := index_facts t
    unfold iblk
    rw [View.read_apply]
    show V m c main_v0 _ = V m c main_v0 _
    refine congrArg _ (funext fun a => Fin.ext ?_)
    match a with
    | ⟨0, _⟩ => show win0_0.index t 0 * 512 + 1 * r.val = 512 * (t.val % 32) + r.val; omega
    | ⟨1, _⟩ => show win0_0.index t 1 * 512 + 1 * l.val = 512 * (t.val / 32) + l.val; omega
  rw [e]
  exact v0_apply m c _ _ h j hl

/-- The keys of grid point `t`. -/
theorem block1_apply (c : Dev nD) (t : Fin cfg0.N) (s : Fin 16384) (j : Fin 128) :
    (iblk m c 1 t (ix3 0 s j) : EReal) = m ((c : Thread nD τ).loc main_arg1) (ix4 0 s (groupOf t) j) := by
  have e : (iblk m c 1 t (ix3 0 s j) : EReal) = V m c main_v3 (ix3 (groupOf t) s j) := by
    obtain ⟨-, -, h0, h1, h2, -⟩ := index_facts t
    unfold iblk
    rw [View.read_apply]
    show V m c main_v3 _ = V m c main_v3 _
    refine congrArg _ (funext fun a => Fin.ext ?_)
    match a with
    | ⟨0, _⟩ => show win0_1.index t 0 * 1 + 1 * 0 = t.val / 32; omega
    | ⟨1, _⟩ => show win0_1.index t 1 * 16384 + 1 * s.val = s.val; omega
    | ⟨2, _⟩ => show win0_1.index t 2 * 128 + 1 * j.val = j.val; omega
  rw [e]
  exact v3_apply m c _ _ _

/-- The values of grid point `t`. -/
theorem block2_apply (c : Dev nD) (t : Fin cfg0.N) (d : Fin 128) (s : Fin 16384) :
    (iblk m c 2 t (ix2 d s) : EReal) = m ((c : Thread nD τ).loc main_arg2) (ix4 0 s (groupOf t) d) := by
  have e : (iblk m c 2 t (ix2 d s) : EReal)
      = V m c main_v6 (ix2 ⟨t.val / 32 * 128 + d.val, by have : t.val / 32 < 4 := (groupOf t).isLt; omega⟩ s) := by
    obtain ⟨-, -, -, -, -, h0, h1, -⟩ := index_facts t
    unfold iblk
    rw [View.read_apply]
    show V m c main_v6 _ = V m c main_v6 _
    refine congrArg _ (funext fun a => Fin.ext ?_)
    match a with
    | ⟨0, _⟩ => show win0_2.index t 0 * 128 + 1 * d.val = t.val / 32 * 128 + d.val; omega
    | ⟨1, _⟩ => show win0_2.index t 1 * 16384 + 1 * s.val = s.val; omega
  rw [e]
  exact v6_apply m c _ _ (groupOf t) d rfl

/-! ## The result array -/

/-- The query head of a column. -/
abbrev headOf (e : Fin 2048) : Fin 16 := ⟨e.val / 128, by omega⟩

/-- The key head of a column. -/
abbrev keyHeadOf (e : Fin 2048) : Fin 4 := ⟨e.val / 512, by omega⟩

/-- The component of a column. -/
abbrev partOf (e : Fin 2048) : Fin 128 := ⟨e.val % 128, by omega⟩

/-- The result array as one function of the arguments. -/
def result (c : Dev nD) : Vec Ideal S16384x2048 .bf16 := fun i =>
  Cert.Attention.mean (fun j => m ((c : Thread nD τ).loc main_arg0) (ix4 0 (i 0) (headOf (i 1)) j))
    (fun t j => m ((c : Thread nD τ).loc main_arg1) (ix4 0 t (keyHeadOf (i 1)) j))
    (fun t => m ((c : Thread nD τ).loc main_arg2) (ix4 0 t (keyHeadOf (i 1)) (partOf (i 1))))

/-- The result at row `r` and column `e`. -/
theorem result_apply (c : Dev nD) (r : Fin 16384) (e : Fin 2048) :
    result m c (ix2 r e) = Cert.Attention.mean (fun j => m ((c : Thread nD τ).loc main_arg0) (ix4 0 r (headOf e) j))
      (fun t j => m ((c : Thread nD τ).loc main_arg1) (ix4 0 t (keyHeadOf e) j))
      (fun t => m ((c : Thread nD τ).loc main_arg2) (ix4 0 t (keyHeadOf e) (partOf e))) := rfl

/-- What a grid point's block holds at row `r` and column `e`. -/
theorem block_apply (x0 : Vec Ideal S512x512 .f32) (x1 : Vec Ideal S1x16384x128 .bf16) (x2 : Vec Ideal S128x16384 .bf16)
    (r e : Fin 512) :
    block x0 x1 x2 (ix2 r e) = Cert.Attention.mean (fun j => x0 (ix2 r ⟨128 * (e.val / 128) + j.val, by omega⟩))
      (fun t j => x1 (ix3 0 t j)) (fun t => x2 (ix2 ⟨e.val % 128, Nat.mod_lt _ (by norm_num)⟩ t)) := rfl

/-- A block of grid point `t` that agrees with an array entry by entry is the array's block there. -/
theorem cut_eq (t : Fin cfg0.N) (b : Vec Ideal S512x512 .bf16) (w : Vec Ideal S16384x2048 .bf16)
    (h : ∀ r e : Fin 512, b (ix2 r e) = w (ix2 (rowOf t r) (colOf t e))) :
    (cfg0.win 3).cut (grid0.coords t) b = ((cfg0.win 3).blk t).view.read (Elt Ideal) w := by
  obtain ⟨-, -, -, -, -, -, -, h0, h1⟩ := index_facts t
  funext y
  obtain ⟨r, e, rfl⟩ : ∃ (r e : Fin 512), y = ix2 r e := ⟨y 0, y 1, eq_ix2 y⟩
  rw [View.read_apply]
  have hi : ((cfg0.win 3).blk t).view.emb (ix2 r e) = ix2 (rowOf t r) (colOf t e) := by
    funext a
    apply Fin.ext
    match a with
    | ⟨0, _⟩ => show win0_3.index t 0 * 512 + 1 * r.val = 512 * (t.val % 32) + r.val; omega
    | ⟨1, _⟩ => show win0_3.index t 1 * 512 + 1 * e.val = 512 * (t.val / 32) + e.val; omega
  rw [hi]
  exact h r e

/-- What grid point `t` computes is its block of the result. -/
theorem block_result (c : Dev nD) (t : Fin cfg0.N) (r e : Fin 512) :
    block (iblk m c 0 t) (iblk m c 1 t) (iblk m c 2 t) (ix2 r e) = result m c (ix2 (rowOf t r) (colOf t e)) := by
  have hk : keyHeadOf (colOf t e) = groupOf t :=
    Fin.ext (by show (512 * (t.val / 32) + e.val) / 512 = t.val / 32; omega)
  have hp : partOf (colOf t e) = ⟨e.val % 128, Nat.mod_lt _ (by norm_num)⟩ :=
    Fin.ext (by show (512 * (t.val / 32) + e.val) % 128 = e.val % 128; omega)
  rw [block_apply, result_apply, hk, hp]
  refine congr (congrArg₂ Cert.Attention.mean (funext fun j => ?_) (funext fun s => funext fun j => ?_)) (funext fun s => ?_)
  · exact block0_apply m c t r _ (headOf (colOf t e)) j
      (by show 512 * (t.val / 32) + (128 * (e.val / 128) + j.val) = (512 * (t.val / 32) + e.val) / 128 * 128 + j.val; omega)
  · exact block1_apply m c t s j
  · exact block2_apply m c t _ s

/-- What grid point `t` writes back is its block of the result. -/
theorem flushed_eq (c : Dev nD) (t : Fin cfg0.N) :
    (dats m 0 c).flushed 3 t = ((cfg0.win 3).blk t).view.read (Elt Ideal) (result m c) := by
  rw [Value.flushed3_A, block_eq]
  exact cut_eq t _ _ fun r e => block_result m c t r e

/-- Every index of the result array lies in the block of the grid point that owns its row and its head. -/
theorem covered (i : S16384x2048.Idx) :
    ∃ t : Fin cfg0.N, (cfg0.win 3).flush t = true ∧ i ∈ ((cfg0.win 3).blk t).view.set := by
  have hN := points
  have hr : (i 0).val < 16384 := (i 0).isLt
  have he : (i 1).val < 2048 := (i 1).isLt
  let t : Fin cfg0.N := ⟨32 * ((i 1).val / 512) + (i 0).val / 512, by omega⟩
  have ht : t.val = 32 * ((i 1).val / 512) + (i 0).val / 512 := rfl
  obtain ⟨-, -, -, -, -, -, -, h0, h1⟩ := index_facts t
  refine ⟨t, flush0_3 t, ?_⟩
  have hm := View.emb_mem_set ((cfg0.win 3).blk t).view (ix2 ⟨(i 0).val % 512, by omega⟩ ⟨(i 1).val % 512, by omega⟩)
  refine (congrArg (· ∈ ((cfg0.win 3).blk t).view.set) (?_ : i = _)).mpr hm
  funext a
  apply Fin.ext
  match a with
  | ⟨0, _⟩ => show (i 0).val = win0_3.index t 0 * 512 + 1 * ((i 0).val % 512); rw [h0, ht]; omega
  | ⟨1, _⟩ => show (i 1).val = win0_3.index t 1 * 512 + 1 * ((i 1).val % 512); rw [h1, ht]; omega

/-- The result array after the run. -/
theorem array_eq (c : Dev nD) : (dats m 0 c).arrAt 3 cfg0.N = result m c :=
  (dats m 0 c).arrAt_eq_of_cover 3 (result m c) (fun t _ => flushed_eq m c t) covered

end Cert.KernelIdeal.Attention

end
-- ==== Proof.Attention.Softmax.lean ====
/-
  The two forms of one entry of attention: with each weight divided by the sum of weights after the largest score is
  subtracted, and with neither. For finite queries and keys they agree.
-/
module

public import proofs.«01_k».proof.Proof.Attention.Row

@[expose] public section

set_option maxRecDepth 16384

noncomputable section

open Idealize.ShloMosaic

namespace Cert.Attention

/-- A score: the product of a query and a key over the square root of the width. -/
def score (q k : Fin 128 → EReal) : EReal :=
  (∑ j, k j * q j) * Ideal.div (Ideal.ofBits .f32 0x3F800000#32) (Ideal.sqrt (Ideal.ofBits .f32 0x43000000#32))

/-- The largest of a query's scores. -/
def top (s : Fin 16384 → EReal) : EReal :=
  max (Ideal.ofBits .f32 0xFF800000#32) (Finset.univ.fold max (Ideal.ofBits .f32 0xFF800000#32) s)

/-- Softmax's weight of key `t`. -/
def share (s : Fin 16384 → EReal) (t : Fin 16384) : EReal :=
  Ideal.div (Ideal.exp (s t - top s)) (Ideal.ofBits .f32 0x00000000#32 + ∑ t', Ideal.exp (s t' - top s))

/-- One entry of the layer's attention. -/
def entry (q : Fin 128 → EReal) (k : Fin 16384 → Fin 128 → EReal) (v : Fin 16384 → EReal) : EReal :=
  ∑ t, v t * share (fun t => score q (k t)) t

/-! ## Sums of reals, and a positive factor of a sum -/

/-- The sum of reals is a real. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A nonnegative real factor of every term of a sum, whose terms may be infinite, is a factor of the sum. -/
theorem sum_mul_coe {ι : Type*} (s : Finset ι) (f : ι → EReal) {c : ℝ} (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih,
      EReal.right_distrib_of_nonneg_of_ne_top (EReal.coe_nonneg.mpr hc) (EReal.coe_ne_top c)]

/-- The largest of finitely many reals, of which there is at least one, is a real. -/
theorem fold_max_coe {ι : Type*} (s : Finset ι) (f : ι → ℝ) (hs : s.Nonempty) :
    ∃ x : ℝ, s.fold max (⊥ : EReal) (fun i => (f i : EReal)) = x := by
  classical
  induction hs using Finset.Nonempty.cons_induction with
  | singleton a => exact ⟨f a, by simp⟩
  | cons a s ha _ ih =>
    obtain ⟨x, hx⟩ := ih
    exact ⟨max (f a) x, by rw [Finset.fold_cons, hx]; exact (EReal.coe_strictMono.monotone.map_max).symm⟩

/-! ## The literals -/

/-- The word of one. -/
theorem one_eq : Ideal.ofBits .f32 0x3F800000#32 = ((1 : ℝ) : EReal) := by
  simp [Ideal.ofBits, Ideal.ieee, -EReal.coe_mul]; norm_num

/-- The word of 128. -/
theorem width_eq : Ideal.ofBits .f32 0x43000000#32 = ((128 : ℝ) : EReal) := by
  simp [Ideal.ofBits, Ideal.ieee, -EReal.coe_mul]; norm_num

/-- The word of zero. -/
theorem zero_eq : Ideal.ofBits .f32 0x00000000#32 = 0 := by
  simp [Ideal.ofBits, Ideal.ieee]

/-- The word of minus infinity. -/
theorem bot_eq : Ideal.ofBits .f32 0xFF800000#32 = ⊥ := by
  simp [Ideal.ofBits, Ideal.ieee]

/-! ## Finite scores -/

/-- The score of a real query and a real key, as a real. -/
def realScore (a b : Fin 128 → ℝ) : ℝ := (∑ j, b j * a j) * (Real.sqrt 128)⁻¹

/-- A score of reals is a real. -/
theorem score_coe (a b : Fin 128 → ℝ) : score (fun j => (a j : EReal)) (fun j => (b j : EReal)) = (realScore a b : EReal) := by
  have hs : Real.sqrt 128 ≠ 0 := (Real.sqrt_pos.mpr (by norm_num)).ne'
  unfold score realScore
  rw [one_eq, width_eq, Ideal.sqrt_coe, if_neg (by norm_num), Ideal.div_coe hs]
  simp only [← EReal.coe_mul, coe_sum, one_mul, one_div]

/-- A weight of the call is the exponential of the score: two to the power of the score over `log 2`. -/
theorem weight_coe (a b : Fin 128 → ℝ) :
    weight (fun j => (a j : EReal)) (fun j => (b j : EReal)) = (Real.exp (realScore a b) : EReal) := by
  have hl : Real.log 2 ≠ 0 := (Real.log_pos (by norm_num)).ne'
  unfold weight scale
  simp only [← EReal.coe_mul, coe_sum]
  rw [Ideal.exp2_coe]
  refine congrArg _ ?_
  show (2 : ℝ) ^ (_ : ℝ) = _
  rw [Real.rpow_def_of_pos (by norm_num)]
  refine congrArg Real.exp ?_
  have h : ∀ j, b j * (a j * ((Real.sqrt 128)⁻¹ * (Real.log 2)⁻¹)) = b j * a j * ((Real.sqrt 128)⁻¹ * (Real.log 2)⁻¹) :=
    fun j => by ring
  simp only [h, ← Finset.sum_mul]
  unfold realScore
  field_simp

/-- The largest of real scores is a real. -/
theorem top_coe (s : Fin 16384 → ℝ) : ∃ x : ℝ, top (fun t => (s t : EReal)) = x := by
  obtain ⟨x, hx⟩ := fold_max_coe Finset.univ s ⟨⟨0, by norm_num⟩, Finset.mem_univ _⟩
  exact ⟨x, by unfold top; rw [bot_eq, hx]; exact max_eq_right bot_le⟩

/-- The sum of the exponentials of real scores is positive. -/
theorem sum_exp_pos (s : Fin 16384 → ℝ) : 0 < ∑ t, Real.exp (s t) :=
  Finset.sum_pos (fun t _ => Real.exp_pos _) ⟨⟨0, by norm_num⟩, Finset.mem_univ _⟩

/-- The subtracted score cancels: softmax's weight is the score's exponential over the sum of the exponentials. -/
theorem share_coe (s : Fin 16384 → ℝ) (t : Fin 16384) :
    share (fun t => (s t : EReal)) t = ((Real.exp (s t) * (1 / ∑ t', Real.exp (s t')) : ℝ) : EReal) := by
  obtain ⟨x, hx⟩ := top_coe s
  unfold share
  rw [hx, zero_eq, zero_add]
  simp only [← EReal.coe_sub, Ideal.exp_coe, coe_sum]
  rw [Ideal.div_coe (sum_exp_pos fun t' => s t' - x).ne', ← EReal.coe_mul]
  refine congrArg _ ?_
  have h : ∀ t', Real.exp (s t' - x) = Real.exp (s t') * Real.exp (-x) := fun t' => by rw [sub_eq_add_neg, Real.exp_add]
  simp only [h, ← Finset.sum_mul]
  have h1 := (sum_exp_pos s).ne'
  have h2 := (Real.exp_pos (-x)).ne'
  field_simp

/-- For finite queries and keys the call's entry is the layer's. The values may be infinite. -/
theorem mean_eq_entry (q : Fin 128 → EReal) (k : Fin 16384 → Fin 128 → EReal) (v : Fin 16384 → EReal)
    (hq : ∀ j, ∃ x : ℝ, q j = x) (hk : ∀ t j, ∃ x : ℝ, k t j = x) : mean q k v = entry q k v := by
  choose a ha using hq
  choose b hb using hk
  obtain rfl : q = fun j => (a j : EReal) := funext ha
  obtain rfl : k = fun t j => (b t j : EReal) := funext fun t => funext (hb t)
  unfold mean entry
  simp only [weight_coe, score_coe, share_coe, coe_sum]
  rw [Ideal.div_coe (sum_exp_pos fun t => realScore a (b t)).ne', ← sum_mul_coe _ _ (one_div_pos.mpr (sum_exp_pos _)).le]
  refine Finset.sum_congr rfl fun t _ => ?_
  rw [EReal.coe_mul, mul_assoc]

end Cert.Attention

end
-- ==== Proof.Attention.Reference.lean ====
/-
  What the attention call's reference computes: at row `r` and column `e` the softmax of the scores of the query's head
  against every key of its key head, summed with the values.
-/
module

public import proofs.«01_k».proof.Proof.Attention.Softmax
public import proofs.«01_k».proof.Proof.Gen.ReferenceIdeal.Read
public import Idealize.ShloMosaic.Lib.Pointwise

@[expose] public section

set_option maxRecDepth 16384

noncomputable section

open Idealize.ShloMosaic

namespace Cert.ReferenceIdeal.Attention

open Cert.ReferenceIdeal Cert.ReferenceIdeal.Gen Cert.ReferenceIdeal.Read

variable (x0 : (⟨S1x16384x16x128, .f32⟩ : BufTy).Contents (Elt Ideal))
  (x1 x2 : (⟨S1x16384x4x128, .f32⟩ : BufTy).Contents (Elt Ideal))

/-- The queries' heads in groups of four, one group for each key head. -/
theorem heads_apply (g h : Fin 4) (r : Fin 16384) (j : Fin 128) :
    val_main_v0 x0 (ix5 0 r g h j) = x0 (ix4 0 r ⟨4 * g.val + h.val, by omega⟩ j) := by
  rw [val_main_v0_apply]
  refine congrArg x0 (funext fun a => Fin.ext ?_)
  match a with
  | ⟨0, _⟩ => rfl
  | ⟨1, _⟩ => show ((((0 * 16384 + r.val) * 4 + g.val) * 4 + h.val) * 128 + j.val) / 2048 % 16384 = r.val; omega
  | ⟨2, _⟩ => show ((((0 * 16384 + r.val) * 4 + g.val) * 4 + h.val) * 128 + j.val) / 128 % 16 = 4 * g.val + h.val; omega
  | ⟨3, _⟩ => show ((((0 * 16384 + r.val) * 4 + g.val) * 4 + h.val) * 128 + j.val) % 128 = j.val; omega

/-- The scores: the products of queries and keys, over the square root of the width. -/
theorem score_apply (g h : Fin 4) (r t : Fin 16384) :
    val_main_v6 x0 x1 (ix5 0 g h r t)
      = Cert.Attention.score (fun j => x0 (ix4 0 r ⟨4 * g.val + h.val, by omega⟩ j)) (fun j => x1 (ix4 0 t g j)) := by
  have e : val_main_v4 x0 x1 (ix5 0 g h r t) = ∑ j : Fin 128, (x1 (ix4 0 t g j) : EReal) * x0 (ix4 0 r ⟨4 * g.val + h.val, by omega⟩ j) := by
    rw [val_main_v4_apply, val_main_v3_apply]
    refine Finset.sum_congr rfl fun j _ => ?_
    refine congrArg₂ (HMul.hMul (α := EReal) (β := EReal)) (congrArg x1 ?_)
      ((congrArg (val_main_v0 x0) ?_).trans (heads_apply x0 g h r j))
    · exact funext fun a => match a with | ⟨0, _⟩ => rfl | ⟨1, _⟩ => rfl | ⟨2, _⟩ => rfl | ⟨3, _⟩ => rfl
    · exact funext fun a => match a with | ⟨0, _⟩ => rfl | ⟨1, _⟩ => rfl | ⟨2, _⟩ => rfl | ⟨3, _⟩ => rfl | ⟨4, _⟩ => rfl
  rw [val_main_v6_apply, val_main_v5_apply, val_main_v2_apply, val_main_v1_apply, e]
  rfl

/-- The largest score of a query. -/
theorem top_apply (g h : Fin 4) (r : Fin 16384) :
    val_main_v9 x0 x1 (ix4 0 g h r) = Cert.Attention.top fun t => val_main_v6 x0 x1 (ix5 0 g h r t) := by
  have e : val_main_v7 x0 x1 (ix4 0 g h r)
      = (Finset.univ : Finset (Fin 16384)).fold max (Ideal.ofBits .f32 0xFF800000#32) fun t => (val_main_v6 x0 x1 (ix5 0 g h r t) : EReal) := by
    unfold val_main_v7
    generalize val_main_v6 x0 x1 = y
    rw [Host.reduce_eq_fold]
    exact Shape.ReducesTo.fold_fiber_r5_a4 reducesTo_S1x4x4x16384x16384_S1x4x4x16384_d4 (ix4 0 g h r) _ _ y
  rw [val_main_v9_apply, e, val_main_v8_apply]
  rfl

/-- The weights before their division by their sum. -/
theorem weight_apply (g h : Fin 4) (r t : Fin 16384) :
    val_main_v13 x0 x1 (ix5 0 g h r t)
      = Ideal.exp ((val_main_v6 x0 x1 (ix5 0 g h r t) : EReal) - Cert.Attention.top fun t => val_main_v6 x0 x1 (ix5 0 g h r t)) := by
  have e : val_main_v11 x0 x1 (ix5 0 g h r t) = Cert.Attention.top fun t => val_main_v6 x0 x1 (ix5 0 g h r t) := by
    rw [val_main_v11_apply, val_main_v10_apply, ← top_apply]
    exact congrArg (val_main_v9 x0 x1) (funext fun a => match a with | ⟨0, _⟩ => rfl | ⟨1, _⟩ => rfl | ⟨2, _⟩ => rfl | ⟨3, _⟩ => rfl)
  rw [val_main_v13_apply, val_main_v12_apply, e]
  rfl

/-- The weights. -/
theorem share_apply (g h : Fin 4) (r t : Fin 16384) :
    val_main_v17 x0 x1 (ix5 0 g h r t) = Cert.Attention.share (fun t => val_main_v6 x0 x1 (ix5 0 g h r t)) t := by
  have e : val_main_v16 x0 x1 (ix5 0 g h r t)
      = Ideal.ofBits .f32 0x00000000#32 + ∑ t' : Fin 16384, (val_main_v13 x0 x1 (ix5 0 g h r t') : EReal) := by
    rw [val_main_v16_apply, val_main_v15_apply, val_main_v14_apply]
    refine congrArg₂ (HAdd.hAdd (α := EReal) (β := EReal)) rfl (Finset.sum_congr rfl fun t' _ => congrArg (val_main_v13 x0 x1) ?_)
    exact funext fun a => match a with | ⟨0, _⟩ => rfl | ⟨1, _⟩ => rfl | ⟨2, _⟩ => rfl | ⟨3, _⟩ => rfl | ⟨4, _⟩ => rfl
  rw [val_main_v17_apply, e, weight_apply]
  simp only [weight_apply]
  rfl

/-- The reference at one index: the softmax of the head's scores, summed with the values. -/
theorem result_apply (r : Fin 16384) (e : Fin 2048) (b : Fin 16) (g : Fin 4) (d : Fin 128)
    (hb : b.val = e.val / 128) (hg : g.val = e.val / 512) (hd : d.val = e.val % 128) :
    val_main_v21 x0 x1 x2 (ix2 r e)
      = Cert.Attention.entry (fun j => x0 (ix4 0 r b j)) (fun t j => x1 (ix4 0 t g j)) (fun t => x2 (ix4 0 t g d)) := by
  have hh : (⟨4 * g.val + e.val / 128 % 4, by omega⟩ : Fin 16) = b := Fin.ext (by show 4 * g.val + e.val / 128 % 4 = b.val; omega)
  have e1 : val_main_v20 x0 x1 x2 (ix2 r e) = val_main_v18 x0 x1 x2 (ix5 0 g d ⟨e.val / 128 % 4, by omega⟩ r) := by
    rw [val_main_v20_apply, val_main_v19_apply]
    refine congrArg (val_main_v18 x0 x1 x2) (funext fun a => Fin.ext ?_)
    match a with
    | ⟨0, _⟩ => rfl
    | ⟨1, _⟩ => show (r.val * 2048 + e.val) / 512 % 4 = g.val; omega
    | ⟨2, _⟩ => show (r.val * 2048 + e.val) % 128 = d.val; omega
    | ⟨3, _⟩ => show (r.val * 2048 + e.val) / 128 % 4 = e.val / 128 % 4; omega
    | ⟨4, _⟩ => show (r.val * 2048 + e.val) / 2048 % 16384 = r.val; omega
  have e2 : val_main_v20 x0 x1 x2 (ix2 r e)
      = ∑ t : Fin 16384, (x2 (ix4 0 t g d) : EReal) * val_main_v17 x0 x1 (ix5 0 g ⟨e.val / 128 % 4, by omega⟩ r t) := by
    rw [e1, val_main_v18_apply]
    refine Finset.sum_congr rfl fun t _ => congrArg₂ (HMul.hMul (α := EReal) (β := EReal)) (congrArg x2 ?_) (congrArg (val_main_v17 x0 x1) ?_)
    · exact funext fun a => match a with | ⟨0, _⟩ => rfl | ⟨1, _⟩ => rfl | ⟨2, _⟩ => rfl | ⟨3, _⟩ => rfl
    · exact funext fun a => match a with | ⟨0, _⟩ => rfl | ⟨1, _⟩ => rfl | ⟨2, _⟩ => rfl | ⟨3, _⟩ => rfl | ⟨4, _⟩ => rfl
  have e3 : val_main_v21 x0 x1 x2 (ix2 r e) = val_main_v20 x0 x1 x2 (ix2 r e) := rfl
  rw [e3, e2]
  simp only [share_apply, score_apply, hh]
  rfl

end Cert.ReferenceIdeal.Attention

end
-- ==== Proof.Attention.Claim.lean ====
/-
  The attention call and its reference return the same array over the extended reals when the queries and the keys are finite:
  each entry is a mean under the exponentials of the scores, from which the reference subtracts the largest score.
-/
module

public import proofs.«01_k».proof.Defs
public import proofs.«01_k».proof.Proof.Attention.Array
public import proofs.«01_k».proof.Proof.Attention.Reference
public import proofs.«01_k».proof.Proof.Gen.Pre_finite_qk

@[expose] public section

set_option maxRecDepth 16384

noncomputable section

open Idealize.ShloMosaic Idealize.ShloMosaic.TcCoe Idealize.SL.Sem

namespace Cert.Attention

/-- The word of infinity. -/
theorem infinity_eq : Ideal.ofBits .f32 0x7F800000#32 = ⊤ := by
  simp [Ideal.ofBits, Ideal.ieee]

/-- An entry whose absolute value is below infinity is a real. -/
theorem real_of_below (a : EReal) (h : Ideal.cmp .olt (max a (-a)) (Ideal.ofBits .f32 0x7F800000#32) = 1#1) :
    ∃ x : ℝ, a = x := by
  rw [infinity_eq] at h
  have hlt : max a (-a) < ⊤ := by
    by_contra hn
    simp [Ideal.cmp, hn] at h
  refine ⟨a.toReal, (EReal.coe_toReal ?_ ?_).symm⟩
  · rintro rfl; simp at hlt
  · rintro rfl; simp at hlt

/-- The attention call equals its reference over the extended reals, for finite queries and keys. -/
theorem algebraic : Cert.algebraic_KernelIdeal_ReferenceIdeal_pre_finite_qk
    (hKernelIdeal := Cert.KernelIdeal.Gen.facts) (hReferenceIdeal := Cert.ReferenceIdeal.Gen.facts)
    (hPre_finite_qk := Cert.Pre_finite_qk.Gen.facts) := by
  intro m g m' g' hpre hargs
  refine ⟨fun c => Cert.KernelIdeal.Attention.result m c, ?_, ?_⟩
  · exact (θ_run _ _ _).mono (fun r h c => ⟨(h c).1.trans (Cert.KernelIdeal.Attention.array_eq m c), (h c).2⟩)
      (Cert.KernelIdeal.Value.run_blocks m g)
  · refine (θ_run _ _ _).mono (fun r h c => ⟨(h c).1.trans ?_, (h c).2⟩) (Cert.ReferenceIdeal.Value.run m' g')
    obtain ⟨h0, h1, h2⟩ := hargs c
    rw [Cert.ReferenceIdeal.Read.val_main_v21_eq]
    funext i
    obtain ⟨r, e, rfl⟩ : ∃ (r : Fin 16384) (e : Fin 2048), i = ix2 r e := ⟨i 0, i 1, eq_ix2 i⟩
    rw [Cert.ReferenceIdeal.Attention.result_apply _ _ _ r e (Cert.KernelIdeal.Attention.headOf e)
      (Cert.KernelIdeal.Attention.keyHeadOf e) (Cert.KernelIdeal.Attention.partOf e) rfl rfl rfl, h0, h1, h2]
    refine (mean_eq_entry _ _ _ (fun j => ?_) fun t j => ?_).symm.trans (Cert.KernelIdeal.Attention.result_apply m c r e).symm
    · exact real_of_below _ (congrFun (hpre c).1 (ix4 0 r (Cert.KernelIdeal.Attention.headOf e) j))
    · exact real_of_below _ (congrFun (hpre c).2 (ix4 0 t (Cert.KernelIdeal.Attention.keyHeadOf e) j))

end Cert.Attention

end
-- ==== Proof.RowNorm.lean ====
/-
  The root-mean-square scaling of one row, over the extended reals: every element of the row is multiplied by the
  reciprocal root of the mean square (plus a small constant) and by the element of a gain. The feed-forward call and the
  merging call both use it, on rows of 2048 elements.
-/
module

public import Idealize.ShloMosaic.Lib.Pointwise

@[expose] public section

noncomputable section

open Idealize.ShloMosaic

namespace Cert.RowNorm

/-- The factor a row is scaled by: one over the root of its mean square plus the small constant (the row has 2048
    elements; the words are those of `2048` and `1e-6`). -/
def factor (x : Fin 2048 → EReal) : EReal :=
  Ideal.rsqrt (Ideal.div (∑ k, x k * x k) (Ideal.ofBits .f32 0x45000000#32) + Ideal.ofBits .f32 0x358637BD#32)

/-- The scaled row with its gain. -/
def scaled (x g : Fin 2048 → EReal) (e : Fin 2048) : EReal := x e * factor x * g e

end Cert.RowNorm

end
-- ==== Proof.Ffn.Row.lean ====
/-
  The feed-forward half-step on one row, over the extended reals: the row is scaled as in `RowNorm`, goes through the gated
  unit `silu (x · W_gate) * (x · W_up)` and the matrix `W_down`, is scaled again, halved and added to the row itself.
-/
module

public import proofs.«01_k».proof.Proof.RowNorm

@[expose] public section

noncomputable section

open Idealize.ShloMosaic

namespace Cert.Ffn

/-- One unit of the gated layer: `silu` of the gate's product times the other product. -/
def unit (x : Fin 2048 → EReal) (wg wu : Fin 2048 → EReal) : EReal :=
  (∑ j, x j * wg j) * Ideal.logistic (∑ j, x j * wg j) * ∑ j, x j * wu j

/-- The gated layer's row times the down matrix. -/
def down (x : Fin 2048 → EReal) (wg wu : Fin 2048 → Fin 5632 → EReal) (wd : Fin 5632 → Fin 2048 → EReal)
    (e : Fin 2048) : EReal :=
  ∑ f, unit x (fun j => wg j f) (fun j => wu j f) * wd f e

/-- The row the half-step returns. -/
def row (x g : Fin 2048 → EReal) (wg wu : Fin 2048 → Fin 5632 → EReal) (wd : Fin 5632 → Fin 2048 → EReal)
    (p : Fin 2048 → EReal) (e : Fin 2048) : EReal :=
  x e + Ideal.ofBits FTy.f32 0x3F000000#32 * RowNorm.scaled (down (RowNorm.scaled x g) wg wu wd) p e

end Cert.Ffn

end
-- ==== Proof.Ffn.Block.lean ====
/-
  What one grid point of the half-step computes. The first point of a row block stores the scaled input row and starts the
  accumulator at zero; every point adds to the accumulator the part of the down product that its 512 columns give; the last
  point scales, halves (the gain it is given is already halved) and adds the row itself.
-/
module

public import proofs.«01_k».proof.Proof.Ffn.Row
public import proofs.«01_k».proof.Proof.Gen.Kernel2Ideal.Value

@[expose] public section

set_option maxRecDepth 16384

noncomputable section

open Idealize.ShloMosaic

namespace Cert.Kernel2Ideal.Ffn

open Cert.Kernel2Ideal Cert.Kernel2Ideal.Gen

/-- The offsets of a store or load at the origin are zero. -/
theorem origin : (![0, 0] : Fin 2 → Nat) = fun _ => 0 := funext fun a => by fin_cases a <;> rfl

/-- The left half of a block of 512 columns. -/
theorem left_apply (x : Vec Ideal S2048x512 .bf16) (j : Fin 2048) (k : Fin 256) :
    View.ld x (Rect.unit ![0, 0] ![2048, 256] inb_S2048x512_S2048x256_0_0) (ix2 j k) = x (ix2 j ⟨k.val, by omega⟩) :=
  congrArg x (funext fun a => Fin.ext (by
    match a with
    | ⟨0, _⟩ => show 0 + 1 * j.val = j.val; omega
    | ⟨1, _⟩ => show 0 + 1 * k.val = k.val; omega))

/-- The right half of a block of 512 columns. -/
theorem right_apply (x : Vec Ideal S2048x512 .bf16) (j : Fin 2048) (k : Fin 256) :
    View.ld x (Rect.unit ![0, 256] ![2048, 256] inb_S2048x512_S2048x256_0_256) (ix2 j k) = x (ix2 j ⟨256 + k.val, by omega⟩) :=
  congrArg x (funext fun a => Fin.ext (by
    match a with
    | ⟨0, _⟩ => show 0 + 1 * j.val = j.val; omega
    | ⟨1, _⟩ => show 256 + 1 * k.val = 256 + k.val; omega))

/-- One step: the accumulator `o` plus the product of the gated block of the scaled rows `n` with the block of the down
    matrix. -/
def step (n : Vec Ideal S512x2048 .bf16) (x2 x3 : Vec Ideal S2048x512 .bf16) (x4 : Vec Ideal S512x2048 .bf16)
    (o : Vec Ideal S512x2048 .f32) : Vec Ideal S512x2048 .f32 :=
  k0_pay5 (F := Ideal) n (View.ld x2 (Rect.unit ![0, 0] ![2048, 256] inb_S2048x512_S2048x256_0_0))
    (View.ld x3 (Rect.unit ![0, 0] ![2048, 256] inb_S2048x512_S2048x256_0_0))
    (View.ld x2 (Rect.unit ![0, 256] ![2048, 256] inb_S2048x512_S2048x256_0_256))
    (View.ld x3 (Rect.unit ![0, 256] ![2048, 256] inb_S2048x512_S2048x256_0_256)) o x4

/-- What a step adds to an element of the accumulator: a sum over the block's 512 columns. -/
theorem step_apply (n : Vec Ideal S512x2048 .bf16) (x2 x3 : Vec Ideal S2048x512 .bf16) (x4 : Vec Ideal S512x2048 .bf16)
    (o : Vec Ideal S512x2048 .f32) (r : Fin 512) (e : Fin 2048) :
    step n x2 x3 x4 o (ix2 r e)
      = o (ix2 r e) + ∑ f : Fin 512,
          Cert.Ffn.unit (fun j => n (ix2 r j)) (fun j => x2 (ix2 j f)) (fun j => x3 (ix2 j f)) * x4 (ix2 f e) := by
  rw [Fin.sum_univ_two_halves 256 256 rfl]
  unfold step k0_pay5
  pointwise [left_apply, right_apply]
  rfl

/-- The scaled input block. -/
theorem normed_apply (x0 : Vec Ideal S512x2048 .f32) (x1 : Vec Ideal S1x2048 .f32) (r : Fin 512) (e : Fin 2048) :
    k0_pay3 x0 x1 (ix2 r e) = Cert.RowNorm.scaled (fun j => x0 (ix2 r j)) (fun j => x1 (ix2 0 j)) e := by
  unfold k0_pay3
  pointwise
  rfl

/-- The accumulator starts at zero. -/
theorem zero_apply (r : Fin 512) (e : Fin 2048) : (k0_pay4 (F := Ideal) (ix2 r e) : EReal) = 0 := by
  unfold k0_pay4
  pointwise

/-- What the last point returns from the finished accumulator `y`. -/
def finish (x0 y : Vec Ideal S512x2048 .f32) (x5 : Vec Ideal S1x2048 .f32) : Vec Ideal S512x2048 .f32 :=
  k0_pay2 x0 y (k0_pay1 y) x5

/-- The finished block at one index. -/
theorem finish_apply (x0 y : Vec Ideal S512x2048 .f32) (x5 : Vec Ideal S1x2048 .f32) (r : Fin 512) (e : Fin 2048) :
    finish x0 y x5 (ix2 r e) = x0 (ix2 r e) + Cert.RowNorm.scaled (fun j => y (ix2 r j)) (fun j => x5 (ix2 0 j)) e := by
  unfold finish k0_pay2 k0_pay1
  pointwise
  rfl

variable (c : Dev nD) (i : grid0.Coords) (arg2 : Memref sig .tc .vmem S512x2048 .f32) (harg2 : arg2.IsWhole)
  (arg3 : Memref sig .tc .vmem S1x2048 .f32) (harg3 : arg3.IsWhole) (arg4 : Memref sig .tc .vmem S2048x512 .bf16)
  (harg4 : arg4.IsWhole) (arg5 : Memref sig .tc .vmem S2048x512 .bf16) (harg5 : arg5.IsWhole)
  (arg6 : Memref sig .tc .vmem S512x2048 .bf16) (harg6 : arg6.IsWhole) (arg7 : Memref sig .tc .vmem S1x2048 .f32)
  (harg7 : arg7.IsWhole) (arg8 : Memref sig .tc .vmem S512x2048 .f32) (harg8 : arg8.IsWhole)
  (arg9 : Memref sig .tc .vmem S512x2048 .bf16) (harg9 : arg9.IsWhole) (arg10 : Memref sig .tc .vmem S512x1 .f32)
  (harg10 : arg10.IsWhole)
  (x0 : Vec Ideal S512x2048 .f32) (x1 : Vec Ideal S1x2048 .f32) (x2 x3 : Vec Ideal S2048x512 .bf16)
  (x4 : Vec Ideal S512x2048 .bf16) (x5 : Vec Ideal S1x2048 .f32) (o : Vec Ideal S512x2048 .f32)
  (n : Vec Ideal S512x2048 .bf16)

/-- The first point of a row block: one step from zero, over the scaled rows it has just stored. -/
theorem first_acc (hc0 : cond0_0 i) (hc1 : ¬cond0_1 i) (hc2 : ¬cond0_2 i) :
    out0_A_6 c i arg2 harg2 arg3 harg3 arg4 harg4 arg5 harg5 arg6 harg6 arg7 harg7 arg8 harg8 arg9 harg9 arg10 harg10
        hc0 hc1 hc2 x0 x1 x2 x3 x4 x5
      = step (k0_pay3 x0 x1) x2 x3 x4 (k0_pay4 (F := Ideal)) := by
  unfold out0_A_6
  rw [View.read_writes_eq_canon _ _ _ (cover0_A_6 c i arg2 harg2 arg3 harg3 arg4 harg4 arg5 harg5 arg6 harg6 arg7 harg7
    arg8 harg8 arg9 harg9 arg10 harg10 hc0 hc1 hc2 x0 x1 x2 x3 x4 x5)]
  unfold kernelRun0_A
  dsimp only
  sl_unfold_words
  rw [View.canon_cons_unit_zero origin]
  simp only [View.readAt_eq_ld, harg2.read_unread, harg3.read_unread, harg4.read_unread, harg5.read_unread, harg6.read_unread,
    View.ld_unit_zero (S := S512x2048) origin, View.ld_unit_zero (S := S1x2048) origin]
  rw [View.readCov_unit_zero _ origin, View.readCov_unit_zero _ origin]
  rfl

/-- The first point of a row block stores the scaled rows. -/
theorem first_rows (hc0 : cond0_0 i) (hc1 : ¬cond0_1 i) (hc2 : ¬cond0_2 i) :
    sout0_A_0 c i arg2 harg2 arg3 harg3 arg4 harg4 arg5 harg5 arg6 harg6 arg7 harg7 arg8 harg8 arg9 harg9 arg10 harg10
        hc0 hc1 hc2 x0 x1 x2 x3 x4 x5
      = k0_pay3 x0 x1 := by
  unfold sout0_A_0
  rw [View.read_writes_eq_canon _ _ _ (scover0_A_0 c i arg2 harg2 arg3 harg3 arg4 harg4 arg5 harg5 arg6 harg6 arg7 harg7
    arg8 harg8 arg9 harg9 arg10 harg10 hc0 hc1 hc2 x0 x1 x2 x3 x4 x5)]
  unfold kernelRun0_A
  dsimp only
  sl_unfold_words
  rw [View.canon_unit_zero origin]
  simp only [View.readAt_eq_ld, harg2.read_unread, harg3.read_unread,
    View.ld_unit_zero (S := S512x2048) origin, View.ld_unit_zero (S := S1x2048) origin]

/-- A point in the middle: one step from what the point before left. -/
theorem middle_acc (hc0 : ¬cond0_0 i) (hc1 : ¬cond0_1 i) (hc2 : ¬cond0_2 i) :
    out0_B_6 c i arg2 harg2 arg3 harg3 arg4 harg4 arg5 harg5 arg6 harg6 arg7 harg7 arg8 harg8 arg9 harg9 arg10 harg10
        hc0 hc1 hc2 x0 x1 x2 x3 x4 x5 o n
      = step n x2 x3 x4 o := by
  unfold out0_B_6
  rw [View.read_writes_eq_canon _ _ _ (cover0_B_6 c i arg2 harg2 arg3 harg3 arg4 harg4 arg5 harg5 arg6 harg6 arg7 harg7
    arg8 harg8 arg9 harg9 arg10 harg10 hc0 hc1 hc2 x0 x1 x2 x3 x4 x5 o n)]
  unfold kernelRun0_B
  dsimp only
  sl_unfold_words
  rw [View.canon_unit_zero origin]
  simp only [View.readAt_eq_ld, harg4.read_unread, harg5.read_unread, harg6.read_unread, harg8.read_unread, harg9.read_unread,
    View.ld_unit_zero (S := S512x2048) origin]
  rfl

/-- The last point: one more step, then the finish. -/
theorem last_acc (hc0 : ¬cond0_0 i) (hc1 : cond0_1 i) (hc2 : cond0_2 i) :
    out0_C_6 c i arg2 harg2 arg3 harg3 arg4 harg4 arg5 harg5 arg6 harg6 arg7 harg7 arg8 harg8 arg9 harg9 arg10 harg10
        hc0 hc1 hc2 x0 x1 x2 x3 x4 x5 o n
      = finish x0 (step n x2 x3 x4 o) x5 := by
  unfold out0_C_6
  rw [View.read_writes_eq_canon _ _ _ (cover0_C_6 c i arg2 harg2 arg3 harg3 arg4 harg4 arg5 harg5 arg6 harg6 arg7 harg7
    arg8 harg8 arg9 harg9 arg10 harg10 hc0 hc1 hc2 x0 x1 x2 x3 x4 x5 o n)]
  unfold kernelRun0_C
  dsimp only
  sl_unfold_words
  rw [View.canon_cons_unit_zero origin]
  simp only [View.readAt_eq_ld, harg2.read_unread, harg4.read_unread, harg5.read_unread, harg6.read_unread, harg7.read_unread,
    harg8.read_unread, harg9.read_unread, View.ld_unit_zero (S := S512x2048) origin, View.ld_unit_zero (S := S1x2048) origin]
  rw [View.readCov_unit_zero _ origin, View.readCov_unit_zero _ origin]
  rfl

end Cert.Kernel2Ideal.Ffn

end
-- ==== Proof.Ffn.Array.lean ====
/-
  What the half-step's result array holds: grid point `t` of 352 works on rows `512 (t / 11)` to `512 (t / 11) + 511` and on the
  gated layer's columns `512 (t % 11)` to `512 (t % 11) + 511`. The eleven points of a row block build the down product up by
  parts; the last one finishes, so row `r` of the result is `Cert.Ffn.row` of the arguments' row `r`.
-/
module

public import proofs.«01_k».proof.Proof.Ffn.Block
public import proofs.«01_k».proof.Proof.Layout
public import Idealize.ShloMosaic.Lib.StableHlo.Run
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen

variable (m : (ℓ : Loc nD τ sig) → Buf (Elt Ideal) ℓ)

/-! ## The arrays the host code prepares -/

/-- The input rows, flattened. -/
theorem v0_apply (c : Dev nD) (r : Fin 16384) (j : Fin 2048) :
    (V m c main_v0 (ix2 r j) : EReal) = m ((c : Thread nD τ).loc main_arg0) (ix3 0 r j) := by
  have h : (V m c main_v0 : Vec Ideal S16384x2048 .f32) = shapeCast S16384x2048 (m ((c : Thread nD τ).loc main_arg0)) shapeCasts_S1x16384x2048_S16384x2048 := by
    unfold V; after_results_simp <;> rfl
  rw [h]
  exact Cert.Layout.drop_batch _ shapeCasts_S1x16384x2048_S16384x2048 _ _

/-- The gain before the gated layer. -/
theorem v2_apply (c : Dev nD) (j : Fin 2048) :
    (V m c main_v2 (ix2 0 j) : EReal) = m ((c : Thread nD τ).loc main_arg1) (ix2 0 j) := by
  have h : (V m c main_v2 : Vec Ideal S1x2048 .f32)
      = shapeCast S1x2048 (shapeCast S2048 (m ((c : Thread nD τ).loc main_arg1)) shapeCasts_S1x2048_S2048) shapeCasts_S2048_S1x2048 := by
    unfold V; after_results_simp <;> rfl
  rw [h]
  exact (Cert.Layout.add_row _ shapeCasts_S2048_S1x2048 j).trans (Cert.Layout.drop_row _ shapeCasts_S1x2048_S2048 j)

/-- The gate's matrix. -/
theorem v4_apply (c : Dev nD) (j : Fin 2048) (k : Fin 5632) :
    (V m c main_v4 (ix2 j k) : EReal) = m ((c : Thread nD τ).loc main_arg2) (ix3 0 j k) := by
  have h : (V m c main_v4 : Vec Ideal S2048x5632 .bf16) = truncf (F := Ideal) .bf16 (shapeCast S2048x5632 (m ((c : Thread nD τ).loc main_arg2)) shapeCasts_S1x2048x5632_S2048x5632) bitsLt_bf16_f32 := by
    unfold V; after_results_simp <;> rfl
  rw [h]
  exact Cert.Layout.drop_batch _ shapeCasts_S1x2048x5632_S2048x5632 _ _

/-- The up matrix. -/
theorem v6_apply (c : Dev nD) (j : Fin 2048) (k : Fin 5632) :
    (V m c main_v6 (ix2 j k) : EReal) = m ((c : Thread nD τ).loc main_arg3) (ix3 0 j k) := by
  have h : (V m c main_v6 : Vec Ideal S2048x5632 .bf16) = truncf (F := Ideal) .bf16 (shapeCast S2048x5632 (m ((c : Thread nD τ).loc main_arg3)) shapeCasts_S1x2048x5632_S2048x5632) bitsLt_bf16_f32 := by
    unfold V; after_results_simp <;> rfl
  rw [h]
  exact Cert.Layout.drop_batch _ shapeCasts_S1x2048x5632_S2048x5632 _ _

/-- The down matrix. -/
theorem v8_apply (c : Dev nD) (j : Fin 5632) (k : Fin 2048) :
    (V m c main_v8 (ix2 j k) : EReal) = m ((c : Thread nD τ).loc main_arg4) (ix3 0 j k) := by
  have h : (V m c main_v8 : Vec Ideal S5632x2048 .bf16) = truncf (F := Ideal) .bf16 (shapeCast S5632x2048 (m ((c : Thread nD τ).loc main_arg4)) shapeCasts_S1x5632x2048_S5632x2048) bitsLt_bf16_f32 := by
    unfold V; after_results_simp <;> rfl
  rw [h]
  exact Cert.Layout.drop_batch _ shapeCasts_S1x5632x2048_S5632x2048 _ _

/-- The gain after the gated layer, halved. -/
theorem v12_apply (c : Dev nD) (j : Fin 2048) :
    (V m c main_v12 (ix2 0 j) : EReal)
      = Ideal.ofBits FTy.f32 0x3F000000#32 * m ((c : Thread nD τ).loc main_arg5) (ix2 0 j) := by
  have h : (V m c main_v12 : Vec Ideal S1x2048 .f32)
      = mulf (F := Ideal) (broadcastInDim S1x2048 ![] bcast_S_S1x2048 (constant (F := Ideal) S_ .f32 0x3F000000#32))
          (shapeCast S1x2048 (shapeCast S2048 (m ((c : Thread nD τ).loc main_arg5)) shapeCasts_S1x2048_S2048) shapeCasts_S2048_S1x2048) := by
    unfold V; after_results_simp <;> rfl
  rw [h]
  exact congrArg (Ideal.ofBits FTy.f32 0x3F000000#32 * ·)
    ((Cert.Layout.add_row _ shapeCasts_S2048_S1x2048 j).trans (Cert.Layout.drop_row _ shapeCasts_S1x2048_S2048 j))

/-! ## The input blocks of a grid point, in terms of the arguments -/

/-- The grid has 32 row blocks of eleven points each. -/
theorem points : cfg0.N = 352 := N_0

/-- Row `r` of point `n`'s row block, as a row of the whole array. -/
abbrev rowOf (n : ℕ) (hn : n < cfg0.N) (r : Fin 512) : Fin 16384 := ⟨512 * (n / 11) + r.val, by have := points; omega⟩

/-- Column `f` of the `k`-th block of the gated layer's columns. -/
abbrev colOf (k : ℕ) (f : Fin 512) : Fin 5632 := ⟨(k * 512 + f.val) % 5632, Nat.mod_lt _ (by norm_num)⟩

/-- Where each window's block lies: the row windows follow the row block, the matrices the column block. -/
theorem index_facts : ∀ t : Fin grid0.N,
    win0_0.index t 0 = t.val / 11 ∧ win0_0.index t 1 = 0 ∧ win0_1.index t 0 = 0 ∧ win0_1.index t 1 = 0
    ∧ win0_2.index t 0 = 0 ∧ win0_2.index t 1 = t.val % 11 ∧ win0_3.index t 0 = 0 ∧ win0_3.index t 1 = t.val % 11
    ∧ win0_4.index t 0 = t.val % 11 ∧ win0_4.index t 1 = 0 ∧ win0_5.index t 0 = 0 ∧ win0_5.index t 1 = 0
    ∧ win0_6.index t 0 = t.val / 11 ∧ win0_6.index t 1 = 0 := by
  decide +kernel

/-- The input rows of grid point `t`. -/
theorem block0_apply (c : Dev nD) (t : Fin cfg0.N) (r : Fin 512) (j : Fin 2048) :
    (iblk m c 0 t (ix2 r j) : EReal) = m ((c : Thread nD τ).loc main_arg0) (ix3 0 (rowOf t.val t.isLt r) j) := by
  have h : (iblk m c 0 t (ix2 r j) : EReal) = V m c main_v0 (ix2 (rowOf t.val t.isLt r) j) := by
    obtain ⟨h0, h1, -⟩ := index_facts t
    unfold iblk
    rw [View.read_apply]
    show V m c main_v0 _ = V m c main_v0 _
    refine congrArg _ (funext fun a => Fin.ext ?_)
    match a with
    | ⟨0, _⟩ => show win0_0.index t 0 * 512 + 1 * r.val = 512 * (t.val / 11) + r.val; omega
    | ⟨1, _⟩ => show win0_0.index t 1 * 2048 + 1 * j.val = j.val; omega
  rw [h]
  exact v0_apply m c _ _

/-- The first gain, at every grid point. -/
theorem block1_apply (c : Dev nD) (t : Fin cfg0.N) (j : Fin 2048) :
    (iblk m c 1 t (ix2 0 j) : EReal) = m ((c : Thread nD τ).loc main_arg1) (ix2 0 j) := by
  have h : (iblk m c 1 t (ix2 0 j) : EReal) = V m c main_v2 (ix2 0 j) := by
    obtain ⟨-, -, h0, h1, -⟩ := index_facts t
    unfold iblk
    rw [View.read_apply]
    show V m c main_v2 _ = V m c main_v2 _
    refine congrArg _ (funext fun a => Fin.ext ?_)
    match a with
    | ⟨0, _⟩ => show win0_1.index t 0 * 1 + 1 * 0 = 0; omega
    | ⟨1, _⟩ => show win0_1.index t 1 * 2048 + 1 * j.val = j.val; omega
  rw [h]
  exact v2_apply m c _

/-- The gate's columns of grid point `t`. -/
theorem block2_apply (c : Dev nD) (t : Fin cfg0.N) (r : Fin 2048) (j : Fin 512) :
    (iblk m c 2 t (ix2 r j) : EReal) = m ((c : Thread nD τ).loc main_arg2) (ix3 0 r (colOf (t.val % 11) j)) := by
  have h : (iblk m c 2 t (ix2 r j) : EReal) = V m c main_v4 (ix2 r (colOf (t.val % 11) j)) := by
    obtain ⟨-, -, -, -, h0, h1, -⟩ := index_facts t
    unfold iblk
    rw [View.read_apply]
    show V m c main_v4 _ = V m c main_v4 _
    refine congrArg _ (funext fun a => Fin.ext ?_)
    match a with
    | ⟨0, _⟩ => show win0_2.index t 0 * 2048 + 1 * r.val = r.val; omega
    | ⟨1, _⟩ => show win0_2.index t 1 * 512 + 1 * j.val = (t.val % 11 * 512 + j.val) % 5632; omega
  rw [h]
  exact v4_apply m c _ _

/-- The up matrix's columns of grid point `t`. -/
theorem block3_apply (c : Dev nD) (t : Fin cfg0.N) (r : Fin 2048) (j : Fin 512) :
    (iblk m c 3 t (ix2 r j) : EReal) = m ((c : Thread nD τ).loc main_arg3) (ix3 0 r (colOf (t.val % 11) j)) := by
  have h : (iblk m c 3 t (ix2 r j) : EReal) = V m c main_v6 (ix2 r (colOf (t.val % 11) j)) := by
    obtain ⟨-, -, -, -, -, -, h0, h1, -⟩ := index_facts t
    unfold iblk
    rw [View.read_apply]
    show V m c main_v6 _ = V m c main_v6 _
    refine congrArg _ (funext fun a => Fin.ext ?_)
    match a with
    | ⟨0, _⟩ => show win0_3.index t 0 * 2048 + 1 * r.val = r.val; omega
    | ⟨1, _⟩ => show win0_3.index t 1 * 512 + 1 * j.val = (t.val % 11 * 512 + j.val) % 5632; omega
  rw [h]
  exact v6_apply m c _ _

/-- The down matrix's rows of grid point `t`. -/
theorem block4_apply (c : Dev nD) (t : Fin cfg0.N) (r : Fin 512) (j : Fin 2048) :
    (iblk m c 4 t (ix2 r j) : EReal) = m ((c : Thread nD τ).loc main_arg4) (ix3 0 (colOf (t.val % 11) r) j) := by
  have h : (iblk m c 4 t (ix2 r j) : EReal) = V m c main_v8 (ix2 (colOf (t.val % 11) r) j) := by
    obtain ⟨-, -, -, -, -, -, -, -, h0, h1, -⟩ := index_facts t
    unfold iblk
    rw [View.read_apply]
    show V m c main_v8 _ = V m c main_v8 _
    refine congrArg _ (funext fun a => Fin.ext ?_)
    match a with
    | ⟨0, _⟩ => show win0_4.index t 0 * 512 + 1 * r.val = (t.val % 11 * 512 + r.val) % 5632; omega
    | ⟨1, _⟩ => show win0_4.index t 1 * 2048 + 1 * j.val = j.val; omega
  rw [h]
  exact v8_apply m c _ _

/-- The second gain, halved, at every grid point. -/
theorem block5_apply (c : Dev nD) (t : Fin cfg0.N) (j : Fin 2048) :
    (iblk m c 5 t (ix2 0 j) : EReal) = Ideal.ofBits FTy.f32 0x3F000000#32 * m ((c : Thread nD τ).loc main_arg5) (ix2 0 j) := by
  have h : (iblk m c 5 t (ix2 0 j) : EReal) = V m c main_v12 (ix2 0 j) := by
    obtain ⟨-, -, -, -, -, -, -, -, -, -, h0, h1, -⟩ := index_facts t
    unfold iblk
    rw [View.read_apply]
    show V m c main_v12 _ = V m c main_v12 _
    refine congrArg _ (funext fun a => Fin.ext ?_)
    match a with
    | ⟨0, _⟩ => show win0_5.index t 0 * 1 + 1 * 0 = 0; omega
    | ⟨1, _⟩ => show win0_5.index t 1 * 2048 + 1 * j.val = j.val; omega
  rw [h]
  exact v12_apply m c _

/-! ## What the accumulator and the stored rows hold after each grid point -/

/-- The scaled input row `q`. -/
def scaledRow (c : Dev nD) (q : Fin 16384) : Fin 2048 → EReal :=
  Cert.RowNorm.scaled (fun j => m ((c : Thread nD τ).loc main_arg0) (ix3 0 q j))
    (fun j => m ((c : Thread nD τ).loc main_arg1) (ix2 0 j))

/-- The part of the down product of row `q` that the `k`-th block of columns gives. -/
def part (c : Dev nD) (q : Fin 16384) (k : ℕ) (e : Fin 2048) : EReal :=
  ∑ f : Fin 512, Cert.Ffn.unit (scaledRow m c q)
      (fun j => m ((c : Thread nD τ).loc main_arg2) (ix3 0 j (colOf k f)))
      (fun j => m ((c : Thread nD τ).loc main_arg3) (ix3 0 j (colOf k f)))
    * m ((c : Thread nD τ).loc main_arg4) (ix3 0 (colOf k f) e)

/-- A step at grid point `t` over the scaled rows adds that point's part. -/
theorem step_part (c : Dev nD) (t : Fin cfg0.N) (n : Vec Ideal S512x2048 .bf16) (o : Vec Ideal S512x2048 .f32)
    (r : Fin 512) (e : Fin 2048) (hn : ∀ j, n (ix2 r j) = scaledRow m c (rowOf t.val t.isLt r) j) :
    step n (iblk m c 2 t) (iblk m c 3 t) (iblk m c 4 t) o (ix2 r e)
      = o (ix2 r e) + part m c (rowOf t.val t.isLt r) (t.val % 11) e := by
  rw [step_apply]
  unfold part
  simp only [hn, block2_apply, block3_apply, block4_apply]

/-- The stored rows after grid point `n`: the scaled rows of its row block. -/
theorem rows_apply (c : Dev nD) (n : ℕ) (hn : n < cfg0.N) (r : Fin 512) (e : Fin 2048) :
    (outsAt0 m c n hn).2 (ix2 r e) = scaledRow m c (rowOf n hn r) e := by
  induction n with
  | zero =>
    rw [outsAt0_A m c ⟨0, hn⟩ rfl (by norm_num) (by norm_num)]
    dsimp only
    rw [first_rows, normed_apply]
    simp only [block0_apply, block1_apply]
    rfl
  | succ n ih =>
    by_cases h0 : (n + 1) % 11 = 0
    · rw [outsAt0_A m c ⟨n + 1, hn⟩ h0 (by dsimp only; omega) (by dsimp only; omega)]
      dsimp only
      rw [first_rows, normed_apply]
      simp only [block0_apply, block1_apply]
      rfl
    · have hs : (outsAt0 m c (n + 1) hn).2 = (outsAt0 m c n (by omega)).2 := by
        by_cases h1 : (n + 1) % 11 = 10
        · rw [outsAt0_C m c ⟨n + 1, hn⟩ h0 h1 h1]; rfl
        · rw [outsAt0_B m c ⟨n + 1, hn⟩ h0 h1 h1]; rfl
      rw [hs, ih (by omega)]
      refine congrArg (fun q => scaledRow m c q e) (Fin.ext ?_)
      show 512 * (n / 11) + r.val = 512 * ((n + 1) / 11) + r.val
      omega

/-- The accumulator after a grid point that is not the last of its row block: the parts so far. -/
theorem acc_apply (c : Dev nD) (n : ℕ) (hn : n < cfg0.N) (hl : n % 11 ≠ 10) (r : Fin 512) (e : Fin 2048) :
    (outsAt0 m c n hn).1 (ix2 r e) = ∑ k ∈ Finset.range (n % 11 + 1), part m c (rowOf n hn r) k e := by
  have first : ∀ (n : ℕ) (hn : n < cfg0.N), n % 11 = 0 →
      (outsAt0 m c n hn).1 (ix2 r e) = ∑ k ∈ Finset.range (n % 11 + 1), part m c (rowOf n hn r) k e := by
    intro n hn h0
    rw [outsAt0_A m c ⟨n, hn⟩ h0 (by dsimp only; omega) (by dsimp only; omega)]
    dsimp only
    rw [first_acc, step_part m c ⟨n, hn⟩ _ _ r e (fun j => by
      rw [normed_apply]; simp only [block0_apply, block1_apply]; rfl), zero_apply, zero_add]
    dsimp only
    rw [h0, Finset.sum_range_one]
  induction n with
  | zero => exact first 0 hn rfl
  | succ n ih =>
    by_cases h0 : (n + 1) % 11 = 0
    · exact first (n + 1) hn h0
    · have hq : rowOf (n + 1) hn r = rowOf n (by omega) r :=
        Fin.ext (by show 512 * ((n + 1) / 11) + r.val = 512 * (n / 11) + r.val; omega)
      rw [outsAt0_B m c ⟨n + 1, hn⟩ h0 hl hl]
      dsimp only
      rw [middle_acc, step_part m c ⟨n + 1, hn⟩ _ _ r e (fun j => by rw [hq]; exact rows_apply m c n _ r j)]
      dsimp only
      have hk : (n + 1) % 11 = n % 11 + 1 := by omega
      rw [hq, hk, Finset.sum_range_succ]
      exact congrArg (· + _) (ih (by omega) (by omega))

/-- The parts of all eleven column blocks make up the down product. -/
theorem parts_eq (c : Dev nD) (q : Fin 16384) (e : Fin 2048) :
    ∑ k ∈ Finset.range 11, part m c q k e
      = Cert.Ffn.down (scaledRow m c q) (fun j k => m ((c : Thread nD τ).loc main_arg2) (ix3 0 j k))
          (fun j k => m ((c : Thread nD τ).loc main_arg3) (ix3 0 j k))
          (fun j k => m ((c : Thread nD τ).loc main_arg4) (ix3 0 j k)) e := by
  rw [Finset.sum_range]
  unfold Cert.Ffn.down part
  rw [Fin.sum_univ_tiles 11 512 rfl]
  refine Finset.sum_congr rfl fun k _ => Finset.sum_congr rfl fun f _ => ?_
  have h : colOf k.val f = ⟨k.val * 512 + f.val, by omega⟩ := Fin.ext (Nat.mod_eq_of_lt (by omega))
  rw [h]

/-! ## The result array -/

/-- The result array as one function of the arguments: row `i 0` is the half-step of the arguments' row `i 0`. -/
def result (c : Dev nD) : Vec Ideal S16384x2048 .f32 := fun i =>
  Cert.Ffn.row (fun j => m ((c : Thread nD τ).loc main_arg0) (ix3 0 (i 0) j))
    (fun j => m ((c : Thread nD τ).loc main_arg1) (ix2 0 j))
    (fun j k => m ((c : Thread nD τ).loc main_arg2) (ix3 0 j k))
    (fun j k => m ((c : Thread nD τ).loc main_arg3) (ix3 0 j k))
    (fun j k => m ((c : Thread nD τ).loc main_arg4) (ix3 0 j k))
    (fun j => m ((c : Thread nD τ).loc main_arg5) (ix2 0 j)) (i 1)

/-- The accumulator when the last grid point of a row block has added its part. -/
theorem total_apply (c : Dev nD) (t : Fin cfg0.N) (h1 : t.val % 11 = 10) (hp : t.val - 1 < cfg0.N) (r : Fin 512)
    (e : Fin 2048) :
    step (outsAt0 m c (t.val - 1) hp).2 (iblk m c 2 t) (iblk m c 3 t) (iblk m c 4 t) (outsAt0 m c (t.val - 1) hp).1 (ix2 r e)
      = Cert.Ffn.down (scaledRow m c (rowOf t.val t.isLt r)) (fun j k => m ((c : Thread nD τ).loc main_arg2) (ix3 0 j k))
          (fun j k => m ((c : Thread nD τ).loc main_arg3) (ix3 0 j k))
          (fun j k => m ((c : Thread nD τ).loc main_arg4) (ix3 0 j k)) e := by
  have hq : rowOf (t.val - 1) hp r = rowOf t.val t.isLt r :=
    Fin.ext (by show 512 * ((t.val - 1) / 11) + r.val = 512 * (t.val / 11) + r.val; omega)
  have hk : (t.val - 1) % 11 + 1 = 10 := by omega
  rw [step_part m c t _ _ r e (fun j => by rw [← hq]; exact rows_apply m c _ hp r j), acc_apply m c _ hp (by omega), hq,
    hk, h1, ← Finset.sum_range_succ, parts_eq]

/-- What the last grid point of a row block writes back is its block of the result. -/
theorem flushed_eq (c : Dev nD) (t : Fin cfg0.N) (h1 : t.val % 11 = 10) :
    (dats m 0 c).flushed 6 t = ((cfg0.win 6).blk t).view.read (Elt Ideal) (result m c) := by
  obtain ⟨-, -, -, -, -, -, -, -, -, -, -, -, h60, h61⟩ := index_facts t
  rw [Value.flushed6_C m c t (by omega) h1 h1, last_acc]
  funext y
  obtain ⟨r, e, rfl⟩ : ∃ (r : Fin 512) (e : Fin 2048), y = ix2 r e := ⟨y 0, y 1, eq_ix2 y⟩
  rw [View.read_apply]
  have hi : ((cfg0.win 6).blk t).view.emb (ix2 r e) = ix2 (rowOf t.val t.isLt r) e := by
    funext a
    apply Fin.ext
    match a with
    | ⟨0, _⟩ => show win0_6.index t 0 * 512 + 1 * r.val = 512 * (t.val / 11) + r.val; omega
    | ⟨1, _⟩ => show win0_6.index t 1 * 2048 + 1 * e.val = e.val; omega
  rw [hi]
  show finish _ _ _ (ix2 r e) = result m c (ix2 (rowOf t.val t.isLt r) e)
  rw [finish_apply, block0_apply]
  simp only [total_apply m c t h1, block5_apply]
  exact congrArg (HAdd.hAdd (α := EReal) (β := EReal) _) (mul_left_comm (G := EReal) _ _ _)

/-- Every index of the result array lies in the block that the last grid point of its row block writes back. -/
theorem covered (i : S16384x2048.Idx) :
    ∃ t : Fin cfg0.N, (cfg0.win 6).flush t = true ∧ i ∈ ((cfg0.win 6).blk t).view.set := by
  have hN := points
  have hr : (i 0).val < 16384 := (i 0).isLt
  have he : (i 1).val < 2048 := (i 1).isLt
  let t : Fin cfg0.N := ⟨11 * ((i 0).val / 512) + 10, by omega⟩
  obtain ⟨-, -, -, -, -, -, -, -, -, -, -, -, h0, h1⟩ := index_facts t
  refine ⟨t, (flush0_6 t).mpr (by show (11 * ((i 0).val / 512) + 10) % 11 = 10; omega), ?_⟩
  have hm := View.emb_mem_set ((cfg0.win 6).blk t).view (ix2 ⟨(i 0).val % 512, by omega⟩ ⟨(i 1).val, he⟩)
  refine (congrArg (· ∈ ((cfg0.win 6).blk t).view.set) (?_ : i = _)).mpr hm
  funext a
  apply Fin.ext
  match a with
  | ⟨0, _⟩ =>
    show (i 0).val = win0_6.index t 0 * 512 + 1 * ((i 0).val % 512)
    rw [h0]
    show _ = (11 * ((i 0).val / 512) + 10) / 11 * 512 + _
    omega
  | ⟨1, _⟩ => show (i 1).val = win0_6.index t 1 * 2048 + 1 * (i 1).val; omega

/-- The result array after the run. -/
theorem array_eq (c : Dev nD) : (dats m 0 c).arrAt 6 cfg0.N = result m c :=
  (dats m 0 c).arrAt_eq_of_cover 6 (result m c) (fun t h => flushed_eq m c t ((flush0_6 t).mp h)) covered

end Cert.Kernel2Ideal.Ffn

end
-- ==== Proof.Ffn.Reference.lean ====
/-
  What the half-step's reference computes: at row `r` and column `e` its result is `Cert.Ffn.row` of the arguments' row `r`.
-/
module

public import proofs.«01_k».proof.Proof.Ffn.Row
public import proofs.«01_k».proof.Proof.Gen.Reference2Ideal.Read

@[expose] public section

set_option maxRecDepth 16384

noncomputable section

open Idealize.ShloMosaic

namespace Cert.Reference2Ideal.Ffn

open Cert.Reference2Ideal Cert.Reference2Ideal.Gen Cert.Reference2Ideal.Read

variable (x0 : (⟨S1x16384x2048, .f32⟩ : BufTy).Contents (Elt Ideal)) (x1 : (⟨S1x2048, .f32⟩ : BufTy).Contents (Elt Ideal))
  (x2 x3 : (⟨S1x2048x5632, .f32⟩ : BufTy).Contents (Elt Ideal)) (x4 : (⟨S1x5632x2048, .f32⟩ : BufTy).Contents (Elt Ideal))
  (x5 : (⟨S1x2048, .f32⟩ : BufTy).Contents (Elt Ideal))

/-- The scaled input row. -/
theorem scaled_apply (r : Fin 16384) (e : Fin 2048) :
    val_main_v17 x0 x1 (ix3 0 r e) = Cert.RowNorm.scaled (fun j => x0 (ix3 0 r j)) (fun j => x1 (ix2 0 j)) e := by
  unfold val_main_v17 val_main_v14 val_main_v13 val_main_v12 val_main_v11 val_main_v9 val_main_v7 val_main_v6 val_main_v5
    val_main_v8 val_main_v10 val_main_v16 val_main_v15 val_main_v0 val_main_cst val_main_cst_0 val_main_cst_1
  pointwise
  rfl

/-- The gated layer's row. -/
theorem unit_apply (r : Fin 16384) (f : Fin 5632) :
    val_main_v21 x0 x1 x2 x3 (ix3 0 r f)
      = Cert.Ffn.unit (Cert.RowNorm.scaled (fun j => x0 (ix3 0 r j)) (fun j => x1 (ix2 0 j))) (fun j => x2 (ix3 0 j f))
          (fun j => x3 (ix3 0 j f)) := by
  unfold val_main_v21 val_main_v19 val_main_v20 val_main_call0_v5 val_main_call0_v3 val_main_call0_v4 val_main_call0_v2
    val_main_call0_v1 val_main_call0_v0 val_main_call0_cst val_main_call0_cst_0 val_main_v18 val_main_v1 val_main_v2
  pointwise [scaled_apply]
  rfl

/-- The gated layer's row times the down matrix. -/
theorem down_apply (r : Fin 16384) (e : Fin 2048) :
    val_main_v22 x0 x1 x2 x3 x4 (ix3 0 r e)
      = Cert.Ffn.down (Cert.RowNorm.scaled (fun j => x0 (ix3 0 r j)) (fun j => x1 (ix2 0 j))) (fun j k => x2 (ix3 0 j k))
          (fun j k => x3 (ix3 0 j k)) (fun j k => x4 (ix3 0 j k)) e := by
  unfold val_main_v22 val_main_v3
  pointwise [unit_apply]
  rfl

/-- The reference at one index: the row function of the arguments' rows. -/
theorem result_apply (r : Fin 16384) (e : Fin 2048) :
    val_main_v39 x0 x1 x2 x3 x4 x5 (ix2 r e)
      = Cert.Ffn.row (fun j => x0 (ix3 0 r j)) (fun j => x1 (ix2 0 j)) (fun j k => x2 (ix3 0 j k)) (fun j k => x3 (ix3 0 j k))
          (fun j k => x4 (ix3 0 j k)) (fun j => x5 (ix2 0 j)) e := by
  unfold val_main_v39 val_main_v38 val_main_v37 val_main_v36 val_main_v35 val_main_v34 val_main_v33 val_main_v32 val_main_v31
    val_main_v30 val_main_v29 val_main_v28 val_main_v27 val_main_v26 val_main_v25 val_main_v24 val_main_v23 val_main_v4
    val_main_cst_5 val_main_cst_4 val_main_cst_3 val_main_cst_2
  pointwise [down_apply]
  rfl

end Cert.Reference2Ideal.Ffn

end
-- ==== Proof.Ffn.Claim.lean ====
/-
  The half-step's call and its reference return the same array over the extended reals, whatever the arguments
  hold: row `r` of both is `Cert.Ffn.row` of the arguments' row `r`.
-/
module

public import proofs.«01_k».proof.Defs
public import proofs.«01_k».proof.Proof.Ffn.Array
public import proofs.«01_k».proof.Proof.Ffn.Reference

@[expose] public section

set_option maxRecDepth 16384

noncomputable section

open Idealize.ShloMosaic Idealize.ShloMosaic.TcCoe Idealize.SL.Sem

namespace Cert.Ffn

/-- The half-step equals its reference over the extended reals. -/
theorem algebraic : Cert.algebraic_Kernel2Ideal_Reference2Ideal
    (hKernel2Ideal := Cert.Kernel2Ideal.Gen.facts) (hReference2Ideal := Cert.Reference2Ideal.Gen.facts) := by
  intro m g m' g' _ hargs
  refine ⟨fun c => Cert.Kernel2Ideal.Ffn.result m c, ?_, ?_⟩
  · exact (θ_run _ _ _).mono (fun r h c => ⟨(h c).1.trans (Cert.Kernel2Ideal.Ffn.array_eq m c), (h c).2⟩)
      (Cert.Kernel2Ideal.Value.run_blocks m g)
  · refine (θ_run _ _ _).mono (fun r h c => ⟨(h c).1.trans ?_, (h c).2⟩) (Cert.Reference2Ideal.Value.run m' g')
    obtain ⟨h0, h1, h2, h3, h4, h5⟩ := hargs c
    rw [Cert.Reference2Ideal.Read.val_main_v39_eq]
    funext i
    obtain ⟨r, e, rfl⟩ : ∃ (r : Fin 16384) (e : Fin 2048), i = ix2 r e := ⟨i 0, i 1, eq_ix2 i⟩
    rw [Cert.Reference2Ideal.Ffn.result_apply, h0, h1, h2, h3, h4, h5]
    rfl

end Cert.Ffn

end
-- ==== Proof.Merge.Row.lean ====
/-
  The merging call on one row, over the extended reals: the attention row and the Fourier row are each multiplied by a
  matrix, gated element by element and added, the sum is multiplied by the output matrix, scaled as in `RowNorm` and
  added to the residual row.
-/
module

public import proofs.«01_k».proof.Proof.RowNorm

@[expose] public section

noncomputable section

open Idealize.ShloMosaic

namespace Cert.Merge

/-- The two gated products added, one element of the row. -/
def mixed (a : Fin 2048 → EReal) (f : Fin 1024 → EReal) (ga gf : Fin 2048 → EReal) (wo : Fin 2048 → Fin 2048 → EReal)
    (wf : Fin 1024 → Fin 2048 → EReal) (k : Fin 2048) : EReal :=
  ga k * (∑ j, a j * wo j k) + gf k * ∑ j, f j * wf j k

/-- The mixed row times the output matrix. -/
def projected (a : Fin 2048 → EReal) (f : Fin 1024 → EReal) (ga gf : Fin 2048 → EReal)
    (wo : Fin 2048 → Fin 2048 → EReal) (wf : Fin 1024 → Fin 2048 → EReal) (w : Fin 2048 → Fin 2048 → EReal)
    (e : Fin 2048) : EReal :=
  ∑ k, mixed a f ga gf wo wf k * w k e

/-- The row the call returns: the residual plus the scaled projection. -/
def row (a : Fin 2048 → EReal) (f : Fin 1024 → EReal) (ga gf h : Fin 2048 → EReal) (wo : Fin 2048 → Fin 2048 → EReal)
    (wf : Fin 1024 → Fin 2048 → EReal) (w : Fin 2048 → Fin 2048 → EReal) (g : Fin 2048 → EReal) (e : Fin 2048) : EReal :=
  h e + RowNorm.scaled (projected a f ga gf wo wf w) g e

end Cert.Merge

end
-- ==== Proof.Merge.Block.lean ====
/-
  What one grid point of the merging call computes: its output block at row `r` and column `e` is `Cert.Merge.row` of the
  input blocks' row `r`.
-/
module

public import proofs.«01_k».proof.Proof.Merge.Row
public import proofs.«01_k».proof.Proof.Gen.Kernel3Ideal.Value

@[expose] public section

set_option maxRecDepth 16384

noncomputable section

open Idealize.ShloMosaic

namespace Cert.Kernel3Ideal.Merge

open Cert.Kernel3Ideal Cert.Kernel3Ideal.Gen

/-- The projected block: row `r` of the product with the output matrix. -/
theorem projected_apply (x0 : Vec Ideal S256x2048 .bf16) (x5 : Vec Ideal S2048x2048 .bf16) (x1 : Vec Ideal S256x1024 .bf16)
    (x6 : Vec Ideal S1024x2048 .bf16) (x2 x3 : Vec Ideal S256x2048 .bf16) (x7 : Vec Ideal S2048x2048 .bf16)
    (r : Fin 256) (e : Fin 2048) :
    k0_pay2 x0 x5 x1 x6 x2 x3 x7 (ix2 r e)
      = Cert.Merge.projected (fun j => x0 (ix2 r j)) (fun j => x1 (ix2 r j)) (fun j => x2 (ix2 r j)) (fun j => x3 (ix2 r j))
          (fun j k => x5 (ix2 j k)) (fun j k => x6 (ix2 j k)) (fun j k => x7 (ix2 j k)) e := by
  unfold k0_pay2
  pointwise
  rfl

/-- The offsets of a store or load at the origin are zero. -/
theorem origin : (![0, 0] : Fin 2 → Nat) = fun _ => 0 := funext fun a => by fin_cases a <;> rfl

/-- The stored block at one index: the row function of the input blocks' rows. -/
theorem block_apply (x0 : Vec Ideal S256x2048 .bf16) (x1 : Vec Ideal S256x1024 .bf16) (x2 x3 : Vec Ideal S256x2048 .bf16)
    (x4 : Vec Ideal S256x2048 .f32) (x5 : Vec Ideal S2048x2048 .bf16) (x6 : Vec Ideal S1024x2048 .bf16)
    (x7 : Vec Ideal S2048x2048 .bf16) (x8 : Vec Ideal S1x2048 .f32) (r : Fin 256) (e : Fin 2048) :
    out0_9 x0 x1 x2 x3 x4 x5 x6 x7 x8 (ix2 r e)
      = Cert.Merge.row (fun j => x0 (ix2 r j)) (fun j => x1 (ix2 r j)) (fun j => x2 (ix2 r j)) (fun j => x3 (ix2 r j))
          (fun j => x4 (ix2 r j)) (fun j k => x5 (ix2 j k)) (fun j k => x6 (ix2 j k)) (fun j k => x7 (ix2 j k))
          (fun j => x8 (ix2 0 j)) e := by
  unfold out0_9
  rw [View.canon_unit_zero origin]
  simp only [View.ld_unit_zero (S := S256x2048) origin, View.ld_unit_zero (S := S2048x2048) origin,
    View.ld_unit_zero (S := S256x1024) origin, View.ld_unit_zero (S := S1024x2048) origin, View.ld_unit_zero (S := S1x2048) origin]
  unfold k0_pay1 k0_pay3 k0_pay4 k0_pay5
  pointwise [projected_apply]
  rfl

end Cert.Kernel3Ideal.Merge

end
-- ==== Proof.Merge.Array.lean ====
/-
  What the merging call's result array holds: grid point `t` reads rows `256 t` to `256 t + 255` of the flattened
  arguments and writes the same rows of the result, so row `r` of the result is `Cert.Merge.row` of the arguments' row `r`.
-/
module

public import proofs.«01_k».proof.Proof.Merge.Block
public import proofs.«01_k».proof.Proof.Layout
public import Idealize.ShloMosaic.Lib.StableHlo.Run
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel3Ideal.Merge

open Cert.Kernel3Ideal Cert.Kernel3Ideal.Gen

variable (m : (ℓ : Loc nD τ sig) → Buf (Elt Ideal) ℓ)

/-! ## The arrays the host code prepares -/

/-- The residual rows, flattened. -/
theorem v0_apply (c : Dev nD) (r : Fin 16384) (j : Fin 2048) :
    (V m c main_v0 (ix2 r j) : EReal) = m ((c : Thread nD τ).loc main_arg3) (ix3 0 r j) := by
  have h : (V m c main_v0 : Vec Ideal S16384x2048 .f32) = shapeCast S16384x2048 (m ((c : Thread nD τ).loc main_arg3)) shapeCasts_S1x16384x2048_S16384x2048 := by
    unfold V; after_results_simp <;> rfl
  rw [h]
  exact Cert.Layout.drop_batch _ shapeCasts_S1x16384x2048_S16384x2048 _ _

/-- The attention rows, flattened. -/
theorem v2_apply (c : Dev nD) (r : Fin 16384) (j : Fin 2048) :
    (V m c main_v2 (ix2 r j) : EReal) = m ((c : Thread nD τ).loc main_arg0) (ix3 0 r j) := by
  have h : (V m c main_v2 : Vec Ideal S16384x2048 .bf16) = truncf (F := Ideal) .bf16 (shapeCast S16384x2048 (m ((c : Thread nD τ).loc main_arg0)) shapeCasts_S1x16384x2048_S16384x2048) bitsLt_bf16_f32 := by
    unfold V; after_results_simp <;> rfl
  rw [h]
  exact Cert.Layout.drop_batch _ shapeCasts_S1x16384x2048_S16384x2048 _ _

/-- The Fourier rows, flattened. -/
theorem v4_apply (c : Dev nD) (r : Fin 16384) (j : Fin 1024) :
    (V m c main_v4 (ix2 r j) : EReal) = m ((c : Thread nD τ).loc main_arg1) (ix3 0 r j) := by
  have h : (V m c main_v4 : Vec Ideal S16384x1024 .bf16) = truncf (F := Ideal) .bf16 (shapeCast S16384x1024 (m ((c : Thread nD τ).loc main_arg1)) shapeCasts_S1x16384x1024_S16384x1024) bitsLt_bf16_f32 := by
    unfold V; after_results_simp <;> rfl
  rw [h]
  exact Cert.Layout.drop_batch _ shapeCasts_S1x16384x1024_S16384x1024 _ _

/-- The gates, the two of a row side by side. -/
theorem v6_apply (c : Dev nD) (r : Fin 16384) (k : Fin 4096) :
    (V m c main_v6 (ix2 r k) : EReal) = m ((c : Thread nD τ).loc main_arg2) (ix4 0 r ⟨k.val / 2048, by omega⟩ ⟨k.val % 2048, by omega⟩) := by
  have h : (V m c main_v6 : Vec Ideal S16384x4096 .bf16) = truncf (F := Ideal) .bf16 (shapeCast S16384x4096 (m ((c : Thread nD τ).loc main_arg2)) shapeCasts_S1x16384x2x2048_S16384x4096) bitsLt_bf16_f32 := by
    unfold V; after_results_simp <;> rfl
  rw [h]
  exact Cert.Layout.flatten_row (p := 2) (k := 2048) rfl _ shapeCasts_S1x16384x2x2048_S16384x4096 r _ _ k (by show k.val = k.val / 2048 * 2048 + k.val % 2048; omega)

/-- The attention's matrix. -/
theorem v8_apply (c : Dev nD) (j k : Fin 2048) :
    (V m c main_v8 (ix2 j k) : EReal) = m ((c : Thread nD τ).loc main_arg4) (ix3 0 j k) := by
  have h : (V m c main_v8 : Vec Ideal S2048x2048 .bf16) = truncf (F := Ideal) .bf16 (shapeCast S2048x2048 (m ((c : Thread nD τ).loc main_arg4)) shapeCasts_S1x2048x2048_S2048x2048) bitsLt_bf16_f32 := by
    unfold V; after_results_simp <;> rfl
  rw [h]
  exact Cert.Layout.drop_batch _ shapeCasts_S1x2048x2048_S2048x2048 _ _

/-- The Fourier branch's matrix. -/
theorem v10_apply (c : Dev nD) (j : Fin 1024) (k : Fin 2048) :
    (V m c main_v10 (ix2 j k) : EReal) = m ((c : Thread nD τ).loc main_arg5) (ix3 0 j k) := by
  have h : (V m c main_v10 : Vec Ideal S1024x2048 .bf16) = truncf (F := Ideal) .bf16 (shapeCast S1024x2048 (m ((c : Thread nD τ).loc main_arg5)) shapeCasts_S1x1024x2048_S1024x2048) bitsLt_bf16_f32 := by
    unfold V; after_results_simp <;> rfl
  rw [h]
  exact Cert.Layout.drop_batch _ shapeCasts_S1x1024x2048_S1024x2048 _ _

/-- The output matrix. -/
theorem v12_apply (c : Dev nD) (j k : Fin 2048) :
    (V m c main_v12 (ix2 j k) : EReal) = m ((c : Thread nD τ).loc main_arg6) (ix3 0 j k) := by
  have h : (V m c main_v12 : Vec Ideal S2048x2048 .bf16) = truncf (F := Ideal) .bf16 (shapeCast S2048x2048 (m ((c : Thread nD τ).loc main_arg6)) shapeCasts_S1x2048x2048_S2048x2048) bitsLt_bf16_f32 := by
    unfold V; after_results_simp <;> rfl
  rw [h]
  exact Cert.Layout.drop_batch _ shapeCasts_S1x2048x2048_S2048x2048 _ _

/-- The gain. -/
theorem v14_apply (c : Dev nD) (j : Fin 2048) :
    (V m c main_v14 (ix2 0 j) : EReal) = m ((c : Thread nD τ).loc main_arg7) (ix2 0 j) := by
  have h : (V m c main_v14 : Vec Ideal S1x2048 .f32)
      = shapeCast S1x2048 (shapeCast S2048 (m ((c : Thread nD τ).loc main_arg7)) shapeCasts_S1x2048_S2048) shapeCasts_S2048_S1x2048 := by
    unfold V; after_results_simp <;> rfl
  rw [h]
  exact (Cert.Layout.add_row _ shapeCasts_S2048_S1x2048 j).trans (Cert.Layout.drop_row _ shapeCasts_S1x2048_S2048 j)

/-! ## The input blocks of a grid point, in terms of the arguments -/

/-- The grid has 64 points. -/
theorem points : cfg0.N = 64 := N_0

/-- Row `r` of grid point `t`'s block, as a row of the whole array. -/
abbrev rowOf (t : Fin cfg0.N) (r : Fin 256) : Fin 16384 := ⟨256 * t.val + r.val, by have := points; have := t.isLt; omega⟩

/-- Where each window's block lies: the row windows follow the grid point, the weight windows do not move. -/
theorem index_facts : ∀ t : Fin grid0.N,
    win0_0.index t 0 = t.val ∧ win0_0.index t 1 = 0 ∧ win0_1.index t 0 = t.val ∧ win0_1.index t 1 = 0
    ∧ win0_2.index t 0 = t.val ∧ win0_2.index t 1 = 0 ∧ win0_3.index t 0 = t.val ∧ win0_3.index t 1 = 1
    ∧ win0_4.index t 0 = t.val ∧ win0_4.index t 1 = 0 ∧ win0_5.index t 0 = 0 ∧ win0_5.index t 1 = 0
    ∧ win0_6.index t 0 = 0 ∧ win0_6.index t 1 = 0 ∧ win0_7.index t 0 = 0 ∧ win0_7.index t 1 = 0
    ∧ win0_8.index t 0 = 0 ∧ win0_8.index t 1 = 0 ∧ win0_9.index t 0 = t.val ∧ win0_9.index t 1 = 0 := by
  decide +kernel

/-- The attention rows of grid point `t`. -/
theorem block0_apply (c : Dev nD) (t : Fin cfg0.N) (r : Fin 256) (j : Fin 2048) :
    (iblk m c 0 t (ix2 r j) : EReal) = m ((c : Thread nD τ).loc main_arg0) (ix3 0 (rowOf t r) j) := by
  have h : (iblk m c 0 t (ix2 r j) : EReal) = V m c main_v2 (ix2 (rowOf t r) j) := by
    obtain ⟨h0, h1, -⟩ := index_facts t
    unfold iblk
    rw [View.read_apply]
    show V m c main_v2 _ = V m c main_v2 _
    refine congrArg _ (funext fun a => Fin.ext ?_)
    match a with
    | ⟨0, _⟩ => show win0_0.index t 0 * 256 + 1 * r.val = 256 * t.val + r.val; omega
    | ⟨1, _⟩ => show win0_0.index t 1 * 2048 + 1 * j.val = j.val; omega
  rw [h]
  exact v2_apply m c _ _

/-- The Fourier rows of grid point `t`. -/
theorem block1_apply (c : Dev nD) (t : Fin cfg0.N) (r : Fin 256) (j : Fin 1024) :
    (iblk m c 1 t (ix2 r j) : EReal) = m ((c : Thread nD τ).loc main_arg1) (ix3 0 (rowOf t r) j) := by
  have h : (iblk m c 1 t (ix2 r j) : EReal) = V m c main_v4 (ix2 (rowOf t r) j) := by
    obtain ⟨-, -, h0, h1, -⟩ := index_facts t
    unfold iblk
    rw [View.read_apply]
    show V m c main_v4 _ = V m c main_v4 _
    refine congrArg _ (funext fun a => Fin.ext ?_)
    match a with
    | ⟨0, _⟩ => show win0_1.index t 0 * 256 + 1 * r.val = 256 * t.val + r.val; omega
    | ⟨1, _⟩ => show win0_1.index t 1 * 1024 + 1 * j.val = j.val; omega
  rw [h]
  exact v4_apply m c _ _

/-- The first gate's rows of grid point `t`. -/
theorem block2_apply (c : Dev nD) (t : Fin cfg0.N) (r : Fin 256) (j : Fin 2048) :
    (iblk m c 2 t (ix2 r j) : EReal) = m ((c : Thread nD τ).loc main_arg2) (ix4 0 (rowOf t r) 0 j) := by
  have h : (iblk m c 2 t (ix2 r j) : EReal) = V m c main_v6 (ix2 (rowOf t r) ⟨j.val, by omega⟩) := by
    obtain ⟨-, -, -, -, h0, h1, -⟩ := index_facts t
    unfold iblk
    rw [View.read_apply]
    show V m c main_v6 _ = V m c main_v6 _
    refine congrArg _ (funext fun a => Fin.ext ?_)
    match a with
    | ⟨0, _⟩ => show win0_2.index t 0 * 256 + 1 * r.val = 256 * t.val + r.val; omega
    | ⟨1, _⟩ => show win0_2.index t 1 * 2048 + 1 * j.val = j.val; omega
  rw [h]
  rw [v6_apply m c]
  refine congrArg _ ?_
  funext a
  have hj := j.isLt
  match a with
  | ⟨0, _⟩ => rfl
  | ⟨1, _⟩ => rfl
  | ⟨2, _⟩ => exact Fin.ext (by show (j.val) / 2048 = 0; omega)
  | ⟨3, _⟩ => exact Fin.ext (by show (j.val) % 2048 = j.val; omega)

/-- The second gate's rows of grid point `t`. -/
theorem block3_apply (c : Dev nD) (t : Fin cfg0.N) (r : Fin 256) (j : Fin 2048) :
    (iblk m c 3 t (ix2 r j) : EReal) = m ((c : Thread nD τ).loc main_arg2) (ix4 0 (rowOf t r) 1 j) := by
  have h : (iblk m c 3 t (ix2 r j) : EReal) = V m c main_v6 (ix2 (rowOf t r) ⟨2048 + j.val, by omega⟩) := by
    obtain ⟨-, -, -, -, -, -, h0, h1, -⟩ := index_facts t
    unfold iblk
    rw [View.read_apply]
    show V m c main_v6 _ = V m c main_v6 _
    refine congrArg _ (funext fun a => Fin.ext ?_)
    match a with
    | ⟨0, _⟩ => show win0_3.index t 0 * 256 + 1 * r.val = 256 * t.val + r.val; omega
    | ⟨1, _⟩ => show win0_3.index t 1 * 2048 + 1 * j.val = 2048 + j.val; omega
  rw [h]
  rw [v6_apply m c]
  refine congrArg _ ?_
  funext a
  have hj := j.isLt
  match a with
  | ⟨0, _⟩ => rfl
  | ⟨1, _⟩ => rfl
  | ⟨2, _⟩ => exact Fin.ext (by show (2048 + j.val) / 2048 = 1; omega)
  | ⟨3, _⟩ => exact Fin.ext (by show (2048 + j.val) % 2048 = j.val; omega)

/-- The residual rows of grid point `t`. -/
theorem block4_apply (c : Dev nD) (t : Fin cfg0.N) (r : Fin 256) (j : Fin 2048) :
    (iblk m c 4 t (ix2 r j) : EReal) = m ((c : Thread nD τ).loc main_arg3) (ix3 0 (rowOf t r) j) := by
  have h : (iblk m c 4 t (ix2 r j) : EReal) = V m c main_v0 (ix2 (rowOf t r) j) := by
    obtain ⟨-, -, -, -, -, -, -, -, h0, h1, -⟩ := index_facts t
    unfold iblk
    rw [View.read_apply]
    show V m c main_v0 _ = V m c main_v0 _
    refine congrArg _ (funext fun a => Fin.ext ?_)
    match a with
    | ⟨0, _⟩ => show win0_4.index t 0 * 256 + 1 * r.val = 256 * t.val + r.val; omega
    | ⟨1, _⟩ => show win0_4.index t 1 * 2048 + 1 * j.val = j.val; omega
  rw [h]
  exact v0_apply m c _ _

/-- The attention's matrix, whole at every grid point. -/
theorem block5_apply (c : Dev nD) (t : Fin cfg0.N) (j : Fin 2048) (k : Fin 2048) :
    (iblk m c 5 t (ix2 j k) : EReal) = m ((c : Thread nD τ).loc main_arg4) (ix3 0 j k) := by
  have h : (iblk m c 5 t (ix2 j k) : EReal) = V m c main_v8 (ix2 j k) := by
    obtain ⟨-, -, -, -, -, -, -, -, -, -, h0, h1, -⟩ := index_facts t
    unfold iblk
    rw [View.read_apply]
    show V m c main_v8 _ = V m c main_v8 _
    refine congrArg _ (funext fun a => Fin.ext ?_)
    match a with
    | ⟨0, _⟩ => show win0_5.index t 0 * 2048 + 1 * j.val = j.val; omega
    | ⟨1, _⟩ => show win0_5.index t 1 * 2048 + 1 * k.val = k.val; omega
  rw [h]
  exact v8_apply m c _ _

/-- The Fourier branch's matrix, whole at every grid point. -/
theorem block6_apply (c : Dev nD) (t : Fin cfg0.N) (j : Fin 1024) (k : Fin 2048) :
    (iblk m c 6 t (ix2 j k) : EReal) = m ((c : Thread nD τ).loc main_arg5) (ix3 0 j k) := by
  have h : (iblk m c 6 t (ix2 j k) : EReal) = V m c main_v10 (ix2 j k) := by
    obtain ⟨-, -, -, -, -, -, -, -, -, -, -, -, h0, h1, -⟩ := index_facts t
    unfold iblk
    rw [View.read_apply]
    show V m c main_v10 _ = V m c main_v10 _
    refine congrArg _ (funext fun a => Fin.ext ?_)
    match a with
    | ⟨0, _⟩ => show win0_6.index t 0 * 1024 + 1 * j.val = j.val; omega
    | ⟨1, _⟩ => show win0_6.index t 1 * 2048 + 1 * k.val = k.val; omega
  rw [h]
  exact v10_apply m c _ _

/-- The output matrix, whole at every grid point. -/
theorem block7_apply (c : Dev nD) (t : Fin cfg0.N) (j : Fin 2048) (k : Fin 2048) :
    (iblk m c 7 t (ix2 j k) : EReal) = m ((c : Thread nD τ).loc main_arg6) (ix3 0 j k) := by
  have h : (iblk m c 7 t (ix2 j k) : EReal) = V m c main_v12 (ix2 j k) := by
    obtain ⟨-, -, -, -, -, -, -, -, -, -, -, -, -, -, h0, h1, -⟩ := index_facts t
    unfold iblk
    rw [View.read_apply]
    show V m c main_v12 _ = V m c main_v12 _
    refine congrArg _ (funext fun a => Fin.ext ?_)
    match a with
    | ⟨0, _⟩ => show win0_7.index t 0 * 2048 + 1 * j.val = j.val; omega
    | ⟨1, _⟩ => show win0_7.index t 1 * 2048 + 1 * k.val = k.val; omega
  rw [h]
  exact v12_apply m c _ _

/-- The gain, whole at every grid point. -/
theorem block8_apply (c : Dev nD) (t : Fin cfg0.N) (j : Fin 2048) :
    (iblk m c 8 t (ix2 0 j) : EReal) = m ((c : Thread nD τ).loc main_arg7) (ix2 0 j) := by
  have h : (iblk m c 8 t (ix2 0 j) : EReal) = V m c main_v14 (ix2 0 j) := by
    obtain ⟨-, -, -, -, -, -, -, -, -, -, -, -, -, -, -, -, h0, h1, -⟩ := index_facts t
    unfold iblk
    rw [View.read_apply]
    show V m c main_v14 _ = V m c main_v14 _
    refine congrArg _ (funext fun a => Fin.ext ?_)
    match a with
    | ⟨0, _⟩ => show win0_8.index t 0 * 1 + 1 * 0 = 0; omega
    | ⟨1, _⟩ => show win0_8.index t 1 * 2048 + 1 * j.val = j.val; omega
  rw [h]
  exact v14_apply m c _

/-! ## The result array -/

/-- The result array as one function of the arguments: row `i 0` is the row function of the arguments' row `i 0`. -/
def result (c : Dev nD) : Vec Ideal S16384x2048 .f32 := fun i =>
  Cert.Merge.row (fun j => m ((c : Thread nD τ).loc main_arg0) (ix3 0 (i 0) j))
    (fun j => m ((c : Thread nD τ).loc main_arg1) (ix3 0 (i 0) j))
    (fun j => m ((c : Thread nD τ).loc main_arg2) (ix4 0 (i 0) 0 j))
    (fun j => m ((c : Thread nD τ).loc main_arg2) (ix4 0 (i 0) 1 j))
    (fun j => m ((c : Thread nD τ).loc main_arg3) (ix3 0 (i 0) j))
    (fun j k => m ((c : Thread nD τ).loc main_arg4) (ix3 0 j k))
    (fun j k => m ((c : Thread nD τ).loc main_arg5) (ix3 0 j k))
    (fun j k => m ((c : Thread nD τ).loc main_arg6) (ix3 0 j k))
    (fun j => m ((c : Thread nD τ).loc main_arg7) (ix2 0 j)) (i 1)

/-- What grid point `t` writes back is its block of the result. -/
theorem flushed_eq (c : Dev nD) (t : Fin cfg0.N) :
    (dats m 0 c).flushed 9 t = ((cfg0.win 9).blk t).view.read (Elt Ideal) (result m c) := by
  obtain ⟨-, -, -, -, -, -, -, -, -, -, -, -, -, -, -, -, -, -, h0, h1⟩ := index_facts t
  rw [Value.flushed9]
  funext y
  obtain ⟨r, e, rfl⟩ : ∃ (r : Fin 256) (e : Fin 2048), y = ix2 r e := ⟨y 0, y 1, eq_ix2 y⟩
  rw [View.read_apply]
  have hi : ((cfg0.win 9).blk t).view.emb (ix2 r e) = ix2 (rowOf t r) e := by
    funext a
    apply Fin.ext
    match a with
    | ⟨0, _⟩ => show win0_9.index t 0 * 256 + 1 * r.val = 256 * t.val + r.val; omega
    | ⟨1, _⟩ => show win0_9.index t 1 * 2048 + 1 * e.val = e.val; omega
  rw [hi]
  show out0_9 _ _ _ _ _ _ _ _ _ (ix2 r e) = result m c (ix2 (rowOf t r) e)
  rw [block_apply]
  unfold result
  simp only [block0_apply, block1_apply, block2_apply, block3_apply, block4_apply, block5_apply, block6_apply,
    block7_apply, block8_apply]
  rfl

/-- Every index of the result array lies in the block of the grid point that owns its row. -/
theorem covered (i : S16384x2048.Idx) :
    ∃ t : Fin cfg0.N, (cfg0.win 9).flush t = true ∧ i ∈ ((cfg0.win 9).blk t).view.set := by
  have hN := points
  have hr : (i 0).val < 16384 := (i 0).isLt
  have he : (i 1).val < 2048 := (i 1).isLt
  let t : Fin cfg0.N := ⟨(i 0).val / 256, by omega⟩
  obtain ⟨-, -, -, -, -, -, -, -, -, -, -, -, -, -, -, -, -, -, h0, h1⟩ := index_facts t
  refine ⟨t, flush0_9 t, ?_⟩
  have hm := View.emb_mem_set ((cfg0.win 9).blk t).view (ix2 ⟨(i 0).val % 256, by omega⟩ ⟨(i 1).val, he⟩)
  refine (congrArg (· ∈ ((cfg0.win 9).blk t).view.set) (?_ : i = _)).mpr hm
  funext a
  apply Fin.ext
  match a with
  | ⟨0, _⟩ => show (i 0).val = win0_9.index t 0 * 256 + 1 * ((i 0).val % 256); rw [h0]; show _ = (i 0).val / 256 * 256 + _; omega
  | ⟨1, _⟩ => show (i 1).val = win0_9.index t 1 * 2048 + 1 * (i 1).val; omega

/-- The result array after the run. -/
theorem array_eq (c : Dev nD) : (dats m 0 c).arrAt 9 cfg0.N = result m c :=
  (dats m 0 c).arrAt_eq_of_cover 9 (result m c) (fun t _ => flushed_eq m c t) covered

end Cert.Kernel3Ideal.Merge

end
-- ==== Proof.Merge.Reference.lean ====
/-
  What the merging call's reference computes: at row `r` and column `e` its result is `Cert.Merge.row` of the arguments'
  row `r`.
-/
module

public import proofs.«01_k».proof.Proof.Merge.Row
public import proofs.«01_k».proof.Proof.Gen.Reference3Ideal.Read

@[expose] public section

set_option maxRecDepth 16384

noncomputable section

open Idealize.ShloMosaic

namespace Cert.Reference3Ideal.Merge

open Cert.Reference3Ideal Cert.Reference3Ideal.Gen Cert.Reference3Ideal.Read

/-- The reference at one index: the row function of the arguments' rows. -/
theorem result_apply (x0 : (⟨S1x16384x2048, .f32⟩ : BufTy).Contents (Elt Ideal))
    (x1 : (⟨S1x16384x1024, .f32⟩ : BufTy).Contents (Elt Ideal)) (x2 : (⟨S1x16384x2x2048, .f32⟩ : BufTy).Contents (Elt Ideal))
    (x3 : (⟨S1x16384x2048, .f32⟩ : BufTy).Contents (Elt Ideal)) (x4 : (⟨S1x2048x2048, .f32⟩ : BufTy).Contents (Elt Ideal))
    (x5 : (⟨S1x1024x2048, .f32⟩ : BufTy).Contents (Elt Ideal)) (x6 : (⟨S1x2048x2048, .f32⟩ : BufTy).Contents (Elt Ideal))
    (x7 : (⟨S1x2048, .f32⟩ : BufTy).Contents (Elt Ideal)) (r : Fin 16384) (e : Fin 2048) :
    val_main_v28 x0 x1 x2 x3 x4 x5 x6 x7 (ix2 r e)
      = Cert.Merge.row (fun j => x0 (ix3 0 r j)) (fun j => x1 (ix3 0 r j)) (fun j => x2 (ix4 0 r 0 j))
          (fun j => x2 (ix4 0 r 1 j)) (fun j => x3 (ix3 0 r j)) (fun j k => x4 (ix3 0 j k)) (fun j k => x5 (ix3 0 j k))
          (fun j k => x6 (ix3 0 j k)) (fun j => x7 (ix2 0 j)) e := by
  rw [← val_main_v28_eq]
  pointwise
  rfl

end Cert.Reference3Ideal.Merge

end
-- ==== Proof.Merge.Claim.lean ====
/-
  The merging call and its reference return the same array over the extended reals, whatever the arguments hold: row `r` of
  both is `Cert.Merge.row` of the arguments' row `r`.
-/
module

public import proofs.«01_k».proof.Defs
public import proofs.«01_k».proof.Proof.Merge.Array
public import proofs.«01_k».proof.Proof.Merge.Reference

@[expose] public section

set_option maxRecDepth 16384

noncomputable section

open Idealize.ShloMosaic Idealize.ShloMosaic.TcCoe Idealize.SL.Sem

namespace Cert.Merge

/-- The merging call equals its reference over the extended reals. -/
theorem algebraic : Cert.algebraic_Kernel3Ideal_Reference3Ideal
    (hKernel3Ideal := Cert.Kernel3Ideal.Gen.facts) (hReference3Ideal := Cert.Reference3Ideal.Gen.facts) := by
  intro m g m' g' _ hargs
  refine ⟨fun c => Cert.Kernel3Ideal.Merge.result m c, ?_, ?_⟩
  · exact (θ_run _ _ _).mono (fun r h c => ⟨(h c).1.trans (Cert.Kernel3Ideal.Merge.array_eq m c), (h c).2⟩)
      (Cert.Kernel3Ideal.Value.run_blocks m g)
  · refine (θ_run _ _ _).mono (fun r h c => ⟨(h c).1.trans ?_, (h c).2⟩) (Cert.Reference3Ideal.Value.run m' g')
    obtain ⟨h0, h1, h2, h3, h4, h5, h6, h7⟩ := hargs c
    rw [Cert.Reference3Ideal.Read.val_main_v28_eq]
    funext i
    obtain ⟨r, e, rfl⟩ : ∃ (r : Fin 16384) (e : Fin 2048), i = ix2 r e := ⟨i 0, i 1, eq_ix2 i⟩
    rw [Cert.Reference3Ideal.Merge.result_apply, h0, h1, h2, h3, h4, h5, h6, h7]
    rfl

end Cert.Merge

end
-- ==== Proof.InProj.Grid.lean ====
/-
  The projection call up to its region, its windows' blocks, and which of the body's five cases a grid point is in.
-/
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.TableIdle

@[expose] public section

set_option maxRecDepth 16384

noncomputable section

namespace Cert.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the host operations. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

set_option maxHeartbeats 800000 in
/-- The program up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, whether it was fetched there or before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, whether it was fetched there or before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, whether it was fetched there or before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, whether it was fetched there or before. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, whether it was fetched there or before. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, whether it was fetched there or before. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, whether it was fetched there or before. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, whether it was fetched there or before. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, whether it was fetched there or before. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The arguments are unchanged after a run that leaves every array as the proof data say. -/
theorem unchanged (dats : (p : Fin 1) → (c : Dev nD) → Dat τ (Elt F) Unit ℕ (UR sig nD τ) ℕ (cfgs p) c)
    {r : PUnit × MemSt nD τ sig (Elt F)} (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-! ## The body's branch conditions -/

/-- The condition of the body's conditional 0, from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 128 := Nat.lt_of_lt_of_eq t.isLt N_0
    have e0 : (grid0.coords t 0).val = t.val / 8 % 16 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-- The condition of the body's conditional 1, from the grid coordinates. -/
abbrev cond0_1 (i : grid0.Coords) : Prop := k0_cond2 i = 1#1
/-- It holds at the points whose coordinates have i1 ≤ 1 — decided over the grid. -/
theorem hcond0_1 : ∀ t : Fin cfg0.N, cond0_1 (grid0.coords t) ↔ t.val % 8 ≤ 1 :=
  (by decide +kernel : ∀ t : Fin grid0.N, cond0_1 (grid0.coords t) ↔ t.val % 8 ≤ 1)

/-- The condition of the body's conditional 2, from the grid coordinates. -/
abbrev cond0_2 (i : grid0.Coords) : Prop := k0_cond3 i = 1#1
/-- It holds at the points ≡ 2 (mod 8) — by arithmetic of the point. -/
theorem hcond0_2 : ∀ t : Fin cfg0.N, cond0_2 (grid0.coords t) ↔ t.val % 8 = 2 :=
  (fun t => by
    have ht : t.val < 128 := Nat.lt_of_lt_of_eq t.isLt N_0
    have e0 : (grid0.coords t 0).val = t.val / 8 % 16 := Pipeline.Grid.coords_val t 0 (by decide) rfl
    have e1 : (grid0.coords t 1).val = t.val / 1 % 8 := Pipeline.Grid.coords_val t 1 (by decide) rfl
    simp only [cond0_2, k0_cond3, e0, e1]
    word_cmp
   : ∀ t : Fin grid0.N, cond0_2 (grid0.coords t) ↔ t.val % 8 = 2)

/-- The condition of the body's conditional 3, from the grid coordinates. -/
abbrev cond0_3 (i : grid0.Coords) : Prop := k0_cond4 i = 1#1
/-- It holds at the points ≡ 3 (mod 8) — by arithmetic of the point. -/
theorem hcond0_3 : ∀ t : Fin cfg0.N, cond0_3 (grid0.coords t) ↔ t.val % 8 = 3 :=
  (fun t => by
    have ht : t.val < 128 := Nat.lt_of_lt_of_eq t.isLt N_0
    have e0 : (grid0.coords t 0).val = t.val / 8 % 16 := Pipeline.Grid.coords_val t 0 (by decide) rfl
    have e1 : (grid0.coords t 1).val = t.val / 1 % 8 := Pipeline.Grid.coords_val t 1 (by decide) rfl
    simp only [cond0_3, k0_cond4, e0, e1]
    word_cmp
   : ∀ t : Fin grid0.N, cond0_3 (grid0.coords t) ↔ t.val % 8 = 3)

/-- The condition of the body's conditional 4, from the grid coordinates. -/
abbrev cond0_4 (i : grid0.Coords) : Prop := k0_cond5 i = 1#1
/-- It holds at the points whose coordinates have 4 ≤ i1 — decided over the grid. -/
theorem hcond0_4 : ∀ t : Fin cfg0.N, cond0_4 (grid0.coords t) ↔ 4 ≤ t.val % 8 :=
  (by decide +kernel : ∀ t : Fin grid0.N, cond0_4 (grid0.coords t) ↔ 4 ≤ t.val % 8)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl

/-! ## The outputs that a point leaves alone -/

/-- The points that leave each output's buffer alone. -/
theorem idle0_9 : ∀ t : Fin cfg0.N, cfg0.idle 9 (grid0.coords t) = !decide (t.val % 8 ≤ 1) := by decide +kernel
theorem idle0_10 : ∀ t : Fin cfg0.N, cfg0.idle 10 (grid0.coords t) = !decide (t.val % 8 = 2) := by decide +kernel
theorem idle0_11 : ∀ t : Fin cfg0.N, cfg0.idle 11 (grid0.coords t) = !decide (t.val % 8 = 2) := by decide +kernel
theorem idle0_12 : ∀ t : Fin cfg0.N, cfg0.idle 12 (grid0.coords t) = !decide (t.val % 8 = 3) := by decide +kernel
theorem idle0_13 : ∀ t : Fin cfg0.N, cfg0.idle 13 (grid0.coords t) = !decide (4 ≤ t.val % 8) := by decide +kernel

/-- The points before which each output's buffer holds nothing that was stored since its block was last written back. -/
theorem fresh0_9 (t : Fin cfg0.N) : cfg0.fresh 9 t.val = decide (t.val % 8 ≤ 1) :=
  Pipeline.Cfg.fresh_tab cfg0 9 (fun n => decide (n % 8 ≤ 1)) rfl (by decide +kernel) t.val (Nat.le_of_lt t.isLt)
theorem fresh0_10 (t : Fin cfg0.N) : cfg0.fresh 10 t.val = decide (t.val % 8 ≤ 2) :=
  Pipeline.Cfg.fresh_tab cfg0 10 (fun n => decide (n % 8 ≤ 2)) rfl (by decide +kernel) t.val (Nat.le_of_lt t.isLt)
theorem fresh0_11 (t : Fin cfg0.N) : cfg0.fresh 11 t.val = decide (t.val % 8 ≤ 2) :=
  Pipeline.Cfg.fresh_tab cfg0 11 (fun n => decide (n % 8 ≤ 2)) rfl (by decide +kernel) t.val (Nat.le_of_lt t.isLt)
theorem fresh0_12 (t : Fin cfg0.N) : cfg0.fresh 12 t.val = decide (t.val % 8 ≤ 3) :=
  Pipeline.Cfg.fresh_tab cfg0 12 (fun n => decide (n % 8 ≤ 3)) rfl (by decide +kernel) t.val (Nat.le_of_lt t.isLt)

/-- Where a point leaves an output alone and its block is written back, the buffer holds what an earlier point of the row stored. -/
theorem carried0_9 : ∀ t : Fin cfg0.N, cfg0.idle 9 (grid0.coords t) = true → (cfg0.win 9).flush t = true → cfg0.fresh 9 t.val = false := by
  intro t; rw [fresh0_9]; revert t; decide +kernel
theorem carried0_10 : ∀ t : Fin cfg0.N, cfg0.idle 10 (grid0.coords t) = true → (cfg0.win 10).flush t = true → cfg0.fresh 10 t.val = false := by
  intro t; rw [fresh0_10]; revert t; decide +kernel
theorem carried0_11 : ∀ t : Fin cfg0.N, cfg0.idle 11 (grid0.coords t) = true → (cfg0.win 11).flush t = true → cfg0.fresh 11 t.val = false := by
  intro t; rw [fresh0_11]; revert t; decide +kernel
theorem carried0_12 : ∀ t : Fin cfg0.N, cfg0.idle 12 (grid0.coords t) = true → (cfg0.win 12).flush t = true → cfg0.fresh 12 t.val = false := by
  intro t; rw [fresh0_12]; revert t; decide +kernel
theorem carried0_13 : ∀ t : Fin cfg0.N, cfg0.idle 13 (grid0.coords t) = true → (cfg0.win 13).flush t = true → cfg0.fresh 13 t.val = false := by
  intro t hi hf
  exact absurd ((by decide +kernel : ∀ t : Fin cfg0.N, cfg0.idle 13 (grid0.coords t) = true → (cfg0.win 13).flush t = false) t hi ▸ hf) Bool.false_ne_true

/-! ## The staging buffers at a point -/

/-- The buffers that the body is called with at a point, each a whole array. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S4x1024x128 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1024x1024 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1024x1024 .bf16 := win0_13.stage (cfg0.slots t 13)
abbrev hs0_13 (t : Fin cfg0.N) : (ms0_13 t).IsWhole := hstage0_13 ((cfg0.slots t 13).cast nbuf0_13)
/-- The scratch operand. -/
abbrev scM0_0 : Memref sig .tc .vmem S1024x2048 .bf16 := Memref.whole cc0_scratch0
/-- The scratch as a view. -/
abbrev VS0_0 : View sig .tc .vmem S1024x2048 .bf16 := scM0_0.view

/-- The scratch and the generator's register, owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.InProj

end
-- ==== Proof.InProj.Step.lean ====
/-
  The contents that the projection's body leaves, as functions of what it reads.
-/
module

public import proofs.«01_k».proof.Proof.InProj.Grid
public import Idealize.ShloMosaic.Lib.Pipeline.Value

@[expose] public section

set_option maxRecDepth 16384

noncomputable section

namespace Cert.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

/-- What the body reads at a grid point. -/
structure Inputs (F : FTy → Type) where
  /-- The rows of the residual stream. -/
  h : Vec F S1024x2048 .f32
  /-- The gain of the norm before the projection. -/
  gain : Vec F S1x2048 .f32
  /-- The projection's columns of this point. -/
  w : Vec F S2048x1024 .bf16
  /-- The gates' bias of this point. -/
  bias : Vec F S1x1024 .f32
  /-- The queries' gain, twice. -/
  gq : Vec F S1x256 .f32
  /-- The keys' gain, twice. -/
  gk : Vec F S1x256 .f32
  /-- The rotary cosines of the rows. -/
  cos : Vec F S1024x128 .f32
  /-- The signed rotary sines of the rows. -/
  sin : Vec F S1024x128 .f32
  /-- The matrix that averages over each head. -/
  mean : Vec F S256x256 .bf16

/-- What the five outputs' buffers and the scratch hold. -/
structure Held (F : FTy → Type) where
  /-- The queries' buffer. -/
  q : Vec F S1024x1024 .bf16
  /-- The keys' buffer. -/
  k : Vec F S4x1024x128 .bf16
  /-- The transposed values' buffer. -/
  v : Vec F S512x1024 .bf16
  /-- The fourier input's buffer. -/
  f : Vec F S1024x1024 .bf16
  /-- The gates' buffer. -/
  g : Vec F S1024x1024 .bf16
  /-- The scratch, which keeps the normed rows. -/
  n : Vec F S1024x2048 .bf16

/-- The normed rows. -/
def normed (X : Inputs F) : Vec F S1024x2048 .bf16 := k0_pay1 X.h X.gain

/-- The first head of a pair, in the kernel's sixteen bits: the product with the pair's columns, normed over the head, scaled and
    rotated. -/
def head0 (n : Vec F S1024x2048 .bf16) (w : Vec F S2048x256 .bf16) (gain : Vec F S1x256 .f32) (mean : Vec F S256x256 .bf16)
    (cos sin : Vec F S1024x128 .f32) : Vec F S1024x128 .bf16 := k0_pay19 n w mean gain cos sin

/-- The second head of a pair. -/
def head1 (n : Vec F S1024x2048 .bf16) (w : Vec F S2048x256 .bf16) (gain : Vec F S1x256 .f32) (mean : Vec F S256x256 .bf16)
    (cos sin : Vec F S1024x128 .f32) : Vec F S1024x128 .bf16 := k0_pay20 (k0_pay18 n w mean gain cos sin)

/-- The pieces that make up a block of queries: eight heads, the last first. -/
def qPieces (X : Inputs F) (n : Vec F S1024x2048 .bf16) : List (View.Piece (Elt F) S1024x1024 .bf16) :=
  [⟨Rect.unit ![0, 896] S1024x128.size inb_S1024x1024_S1024x128_0_896, head1 n (View.ld X.w (Rect.unit ![0, 768] S2048x256.size inb_S2048x1024_S2048x256_0_768)) X.gq X.mean X.cos X.sin⟩,
   ⟨Rect.unit ![0, 768] S1024x128.size inb_S1024x1024_S1024x128_0_768, head0 n (View.ld X.w (Rect.unit ![0, 768] S2048x256.size inb_S2048x1024_S2048x256_0_768)) X.gq X.mean X.cos X.sin⟩,
   ⟨Rect.unit ![0, 640] S1024x128.size inb_S1024x1024_S1024x128_0_640, head1 n (View.ld X.w (Rect.unit ![0, 512] S2048x256.size inb_S2048x1024_S2048x256_0_512)) X.gq X.mean X.cos X.sin⟩,
   ⟨Rect.unit ![0, 512] S1024x128.size inb_S1024x1024_S1024x128_0_512, head0 n (View.ld X.w (Rect.unit ![0, 512] S2048x256.size inb_S2048x1024_S2048x256_0_512)) X.gq X.mean X.cos X.sin⟩,
   ⟨Rect.unit ![0, 384] S1024x128.size inb_S1024x1024_S1024x128_0_384, head1 n (View.ld X.w (Rect.unit ![0, 256] S2048x256.size inb_S2048x1024_S2048x256_0_256)) X.gq X.mean X.cos X.sin⟩,
   ⟨Rect.unit ![0, 256] S1024x128.size inb_S1024x1024_S1024x128_0_256, head0 n (View.ld X.w (Rect.unit ![0, 256] S2048x256.size inb_S2048x1024_S2048x256_0_256)) X.gq X.mean X.cos X.sin⟩,
   ⟨Rect.unit ![0, 128] S1024x128.size inb_S1024x1024_S1024x128_0_128, head1 n (View.ld X.w (Rect.unit ![0, 0] S2048x256.size inb_S2048x1024_S2048x256_0_0)) X.gq X.mean X.cos X.sin⟩,
   ⟨Rect.unit ![0, 0] S1024x128.size inb_S1024x1024_S1024x128_0_0, head0 n (View.ld X.w (Rect.unit ![0, 0] S2048x256.size inb_S2048x1024_S2048x256_0_0)) X.gq X.mean X.cos X.sin⟩]

/-- The pieces that make up a block of keys: four heads, the last first. -/
def kPieces (X : Inputs F) (n : Vec F S1024x2048 .bf16) : List (View.Piece (Elt F) S4x1024x128 .bf16) :=
  [⟨Rect.unit ![3, 0, 0] S1x1024x128.size inb_S4x1024x128_S1x1024x128_3_0_0, k0_pay38 (head1 n (View.ld X.w (Rect.unit ![0, 256] S2048x256.size inb_S2048x1024_S2048x256_0_256)) X.gk X.mean X.cos X.sin)⟩,
   ⟨Rect.unit ![2, 0, 0] S1x1024x128.size inb_S4x1024x128_S1x1024x128_2_0_0, k0_pay38 (head0 n (View.ld X.w (Rect.unit ![0, 256] S2048x256.size inb_S2048x1024_S2048x256_0_256)) X.gk X.mean X.cos X.sin)⟩,
   ⟨Rect.unit ![1, 0, 0] S1x1024x128.size inb_S4x1024x128_S1x1024x128_1_0_0, k0_pay38 (head1 n (View.ld X.w (Rect.unit ![0, 0] S2048x256.size inb_S2048x1024_S2048x256_0_0)) X.gk X.mean X.cos X.sin)⟩,
   ⟨Rect.unit ![0, 0, 0] S1x1024x128.size inb_S4x1024x128_S1x1024x128_0_0_0, k0_pay38 (head0 n (View.ld X.w (Rect.unit ![0, 0] S2048x256.size inb_S2048x1024_S2048x256_0_0)) X.gk X.mean X.cos X.sin)⟩]

/-- The pieces that make up a block of transposed values. -/
def vPieces (X : Inputs F) (n : Vec F S1024x2048 .bf16) : List (View.Piece (Elt F) S512x1024 .bf16) :=
  [⟨Rect.unit ![256, 0] S256x1024.size inb_S512x1024_S256x1024_256_0, k0_pay8 n (View.ld X.w (Rect.unit ![0, 768] S2048x256.size inb_S2048x1024_S2048x256_0_768))⟩,
   ⟨Rect.unit ![0, 0] S256x1024.size inb_S512x1024_S256x1024_0_0, k0_pay8 n (View.ld X.w (Rect.unit ![0, 512] S2048x256.size inb_S2048x1024_S2048x256_0_512))⟩]

/-- The pieces that make up a block of the Fourier input. -/
def fPieces (X : Inputs F) (n : Vec F S1024x2048 .bf16) : List (View.Piece (Elt F) S1024x1024 .bf16) :=
  [⟨Rect.unit ![0, 768] S1024x256.size inb_S1024x1024_S1024x256_0_768, k0_pay10 n (View.ld X.w (Rect.unit ![0, 768] S2048x256.size inb_S2048x1024_S2048x256_0_768))⟩,
   ⟨Rect.unit ![0, 512] S1024x256.size inb_S1024x1024_S1024x256_0_512, k0_pay10 n (View.ld X.w (Rect.unit ![0, 512] S2048x256.size inb_S2048x1024_S2048x256_0_512))⟩,
   ⟨Rect.unit ![0, 256] S1024x256.size inb_S1024x1024_S1024x256_0_256, k0_pay10 n (View.ld X.w (Rect.unit ![0, 256] S2048x256.size inb_S2048x1024_S2048x256_0_256))⟩,
   ⟨Rect.unit ![0, 0] S1024x256.size inb_S1024x1024_S1024x256_0_0, k0_pay10 n (View.ld X.w (Rect.unit ![0, 0] S2048x256.size inb_S2048x1024_S2048x256_0_0))⟩]

/-- The pieces that make up a block of gates. -/
def gPieces (X : Inputs F) (n : Vec F S1024x2048 .bf16) : List (View.Piece (Elt F) S1024x1024 .bf16) :=
  [⟨Rect.unit ![0, 768] S1024x256.size inb_S1024x1024_S1024x256_0_768, k0_pay45 n (View.ld X.w (Rect.unit ![0, 768] S2048x256.size inb_S2048x1024_S2048x256_0_768))
      (View.ld X.bias (Rect.unit ![0, 768] S1x256.size inb_S1x1024_S1x256_0_768))⟩,
   ⟨Rect.unit ![0, 512] S1024x256.size inb_S1024x1024_S1024x256_0_512, k0_pay45 n (View.ld X.w (Rect.unit ![0, 512] S2048x256.size inb_S2048x1024_S2048x256_0_512))
      (View.ld X.bias (Rect.unit ![0, 512] S1x256.size inb_S1x1024_S1x256_0_512))⟩,
   ⟨Rect.unit ![0, 256] S1024x256.size inb_S1024x1024_S1024x256_0_256, k0_pay45 n (View.ld X.w (Rect.unit ![0, 256] S2048x256.size inb_S2048x1024_S2048x256_0_256))
      (View.ld X.bias (Rect.unit ![0, 256] S1x256.size inb_S1x1024_S1x256_0_256))⟩,
   ⟨Rect.unit ![0, 0] S1024x256.size inb_S1024x1024_S1024x256_0_0, k0_pay45 n (View.ld X.w (Rect.unit ![0, 0] S2048x256.size inb_S2048x1024_S2048x256_0_0))
      (View.ld X.bias (Rect.unit ![0, 0] S1x256.size inb_S1x1024_S1x256_0_0))⟩]

/-- The pieces of each list cover its block. -/
theorem qPieces_cover (X : Inputs F) (n : Vec F S1024x2048 .bf16) (y : S1024x1024.Idx) : ∃ p ∈ qPieces X n, y ∈ p.1.set :=
  View.cover_of_tiledL (qPieces X n) S1024x128.size (by sl_kernel_rfl) y
theorem kPieces_cover (X : Inputs F) (n : Vec F S1024x2048 .bf16) (y : S4x1024x128.Idx) : ∃ p ∈ kPieces X n, y ∈ p.1.set :=
  View.cover_of_tiledL (kPieces X n) S1x1024x128.size (by sl_kernel_rfl) y
theorem vPieces_cover (X : Inputs F) (n : Vec F S1024x2048 .bf16) (y : S512x1024.Idx) : ∃ p ∈ vPieces X n, y ∈ p.1.set :=
  View.cover_of_tiledL (vPieces X n) S256x1024.size (by sl_kernel_rfl) y
theorem fPieces_cover (X : Inputs F) (n : Vec F S1024x2048 .bf16) (y : S1024x1024.Idx) : ∃ p ∈ fPieces X n, y ∈ p.1.set :=
  View.cover_of_tiledL (fPieces X n) S1024x256.size (by sl_kernel_rfl) y
theorem gPieces_cover (X : Inputs F) (n : Vec F S1024x2048 .bf16) (y : S1024x1024.Idx) : ∃ p ∈ gPieces X n, y ∈ p.1.set :=
  View.cover_of_tiledL (gPieces X n) S1024x256.size (by sl_kernel_rfl) y

/-- What the buffers hold after the body at a point of column `j`: the first point norms the rows, the first two make queries, the
    third keys and values, the fourth the Fourier input, the last four gates. -/
def step (j : ℕ) (X : Inputs F) (S : Held F) : Held F where
  n := if j = 0 then normed X else S.n
  q := if j ≤ 1 then View.canon (qPieces X (if j = 0 then normed X else S.n)) else S.q
  k := if j = 2 then View.canon (kPieces X S.n) else S.k
  v := if j = 2 then View.canon (vPieces X S.n) else S.v
  f := if j = 3 then View.canon (fPieces X S.n) else S.f
  g := if 4 ≤ j then View.canon (gPieces X S.n) else S.g

/-- Which buffers a point leaves alone, and what it puts into the others, as functions of what it reads and of the normed rows. -/
theorem step_n_first {j : ℕ} (h : j = 0) (X : Inputs F) (S : Held F) : (step j X S).n = normed X := if_pos h
theorem step_n_later {j : ℕ} (h : j ≠ 0) (X : Inputs F) (S : Held F) : (step j X S).n = S.n := if_neg h
theorem step_q_live {j : ℕ} (h : j ≤ 1) (X : Inputs F) (S : Held F) : (step j X S).q = View.canon (qPieces X (step j X S).n) := if_pos h
theorem step_q_idle {j : ℕ} (h : ¬j ≤ 1) (X : Inputs F) (S : Held F) : (step j X S).q = S.q := if_neg h
theorem step_k_live {j : ℕ} (h : j = 2) (X : Inputs F) (S : Held F) : (step j X S).k = View.canon (kPieces X (step j X S).n) := by
  rw [step_n_later (by omega)]; exact if_pos h
theorem step_k_idle {j : ℕ} (h : ¬j = 2) (X : Inputs F) (S : Held F) : (step j X S).k = S.k := if_neg h
theorem step_v_live {j : ℕ} (h : j = 2) (X : Inputs F) (S : Held F) : (step j X S).v = View.canon (vPieces X (step j X S).n) := by
  rw [step_n_later (by omega)]; exact if_pos h
theorem step_v_idle {j : ℕ} (h : ¬j = 2) (X : Inputs F) (S : Held F) : (step j X S).v = S.v := if_neg h
theorem step_f_live {j : ℕ} (h : j = 3) (X : Inputs F) (S : Held F) : (step j X S).f = View.canon (fPieces X (step j X S).n) := by
  rw [step_n_later (by omega)]; exact if_pos h
theorem step_f_idle {j : ℕ} (h : ¬j = 3) (X : Inputs F) (S : Held F) : (step j X S).f = S.f := if_neg h
theorem step_g_live {j : ℕ} (h : 4 ≤ j) (X : Inputs F) (S : Held F) : (step j X S).g = View.canon (gPieces X (step j X S).n) := by
  rw [step_n_later (by omega)]; exact if_pos h
theorem step_g_idle {j : ℕ} (h : ¬4 ≤ j) (X : Inputs F) (S : Held F) : (step j X S).g = S.g := if_neg h

end Cert.InProj

end
-- ==== Proof.InProj.Exec.lean ====
/-
  The projection's body at any grid point: from the inputs and any contents of the outputs' buffers it runs to its end and leaves the contents that `step` says.
-/
module

public import proofs.«01_k».proof.Proof.InProj.Step
public import Idealize.ShloMosaic.Lib.VecWindow

@[expose] public section

set_option maxRecDepth 16384

noncomputable section

namespace Cert.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

/-- The buffers that the body is called with, each a whole array. -/
structure Bufs where
  h : Memref sig .tc .vmem S1024x2048 .f32
  h_whole : h.IsWhole
  gain : Memref sig .tc .vmem S1x2048 .f32
  gain_whole : gain.IsWhole
  w : Memref sig .tc .vmem S2048x1024 .bf16
  w_whole : w.IsWhole
  bias : Memref sig .tc .vmem S1x1024 .f32
  bias_whole : bias.IsWhole
  gq : Memref sig .tc .vmem S1x256 .f32
  gq_whole : gq.IsWhole
  gk : Memref sig .tc .vmem S1x256 .f32
  gk_whole : gk.IsWhole
  cos : Memref sig .tc .vmem S1024x128 .f32
  cos_whole : cos.IsWhole
  sin : Memref sig .tc .vmem S1024x128 .f32
  sin_whole : sin.IsWhole
  mean : Memref sig .tc .vmem S256x256 .bf16
  mean_whole : mean.IsWhole
  q : Memref sig .tc .vmem S1024x1024 .bf16
  q_whole : q.IsWhole
  k : Memref sig .tc .vmem S4x1024x128 .bf16
  k_whole : k.IsWhole
  v : Memref sig .tc .vmem S512x1024 .bf16
  v_whole : v.IsWhole
  f : Memref sig .tc .vmem S1024x1024 .bf16
  f_whole : f.IsWhole
  g : Memref sig .tc .vmem S1024x1024 .bf16
  g_whole : g.IsWhole
  n : Memref sig .tc .vmem S1024x2048 .bf16
  n_whole : n.IsWhole

/-- The buffers with the inputs `X` and the contents `S`. -/
def owned (c : Dev nD) (B : Bufs) (X : Inputs F) (S : Held F) : sProp 𝕄 :=
  iprop(owns (c : Thread nD τ) B.h fullShare X.h ∗ owns (c : Thread nD τ) B.gain fullShare X.gain ∗ owns (c : Thread nD τ) B.w fullShare X.w ∗ owns (c : Thread nD τ) B.bias fullShare X.bias ∗ owns (c : Thread nD τ) B.gq fullShare X.gq ∗ owns (c : Thread nD τ) B.gk fullShare X.gk ∗ owns (c : Thread nD τ) B.cos fullShare X.cos ∗ owns (c : Thread nD τ) B.sin fullShare X.sin ∗ owns (c : Thread nD τ) B.mean fullShare X.mean ∗ owns (c : Thread nD τ) B.q fullShare S.q ∗ owns (c : Thread nD τ) B.k fullShare S.k ∗ owns (c : Thread nD τ) B.v fullShare S.v ∗ owns (c : Thread nD τ) B.f fullShare S.f ∗ owns (c : Thread nD τ) B.g fullShare S.g ∗ owns (c : Thread nD τ) B.n fullShare S.n)

/-- A buffer that was filled by pieces holds what the pieces say. -/
theorem read_filled {κ : Kind} {sp : Space} {s : Shape} {e : EltTy} (b : View sig κ sp s e) (z : b.ty.Contents (Elt F)) (L L' : List (View.Piece (Elt F) s e))
    (h : L = L') (hc : ∀ y, ∃ p ∈ L', y ∈ p.1.set) : b.read (Elt F) (b.writes (Elt F) z L) = View.canon L' := by
  rw [h]; exact View.read_writes_eq_canon b z L' hc

/-- A buffer that was filled by one store of its own sizes holds what was stored. -/
theorem read_full {κ : Kind} {sp : Space} {s : Shape} {e : EltTy} (b : View sig κ sp s e) (z : b.ty.Contents (Elt F)) {off : Fin s.rank → ℕ} (inb : ∀ a, off a + s.size a ≤ s.size a)
    (x : s.Idx → Elt F e) : b.read (Elt F) (b.writes (Elt F) z [⟨Rect.unit off s.size inb, x⟩]) = x := by
  have h : ∀ y, (Rect.unit off s.size inb).emb y = y := Rect.emb_unit_full inb
  rw [View.read_writes_eq_canon b z _ (fun y => ⟨_, List.mem_singleton.mpr rfl, by rw [← h y]; rw [← Rect.map_emb_univ]; exact Finset.mem_map_of_mem _ (Finset.mem_univ y)⟩)]
  funext y
  have := View.canon_cons_emb (Rect.unit off s.size inb) x [] y
  rwa [h y] at this

/-- The column of a grid point settles every conditional of the body. -/
theorem columns (t : Fin cfg0.N) :
    (t.val % 8 = 0 ∧ cond0_0 (grid0.coords t) ∧ cond0_1 (grid0.coords t) ∧ ¬cond0_2 (grid0.coords t) ∧ ¬cond0_3 (grid0.coords t) ∧ ¬cond0_4 (grid0.coords t))
      ∨ (t.val % 8 = 1 ∧ ¬cond0_0 (grid0.coords t) ∧ cond0_1 (grid0.coords t) ∧ ¬cond0_2 (grid0.coords t) ∧ ¬cond0_3 (grid0.coords t) ∧ ¬cond0_4 (grid0.coords t))
      ∨ (t.val % 8 = 2 ∧ ¬cond0_0 (grid0.coords t) ∧ ¬cond0_1 (grid0.coords t) ∧ cond0_2 (grid0.coords t) ∧ ¬cond0_3 (grid0.coords t) ∧ ¬cond0_4 (grid0.coords t))
      ∨ (t.val % 8 = 3 ∧ ¬cond0_0 (grid0.coords t) ∧ ¬cond0_1 (grid0.coords t) ∧ ¬cond0_2 (grid0.coords t) ∧ cond0_3 (grid0.coords t) ∧ ¬cond0_4 (grid0.coords t))
      ∨ (4 ≤ t.val % 8 ∧ ¬cond0_0 (grid0.coords t) ∧ ¬cond0_1 (grid0.coords t) ∧ ¬cond0_2 (grid0.coords t) ∧ ¬cond0_3 (grid0.coords t) ∧ cond0_4 (grid0.coords t)) := by
  rw [hcond0_0, hcond0_1, hcond0_2, hcond0_3, hcond0_4]; omega

set_option maxHeartbeats 4000000 in
/-- The body at a grid point: it runs to its end from the inputs and any contents of the other buffers, and leaves what `step` says. -/
theorem body_run (c : Dev nD) (t : Fin cfg0.N) (B : Bufs) (X : Inputs F) (S : Held F) (E : Set ℕ) (K : PUnit → sProp 𝕄) :
    iprop(owned c B X S ∗ (owned c B X (step (t.val % 8) X S) -∗ K ⟨⟩))
      ⊢ wp frame (wpE (defs₀ (F := F)) Variants.none c none) E (cc0_in_proj (grid0.coords t) B.h B.h_whole B.gain B.gain_whole B.w B.w_whole B.bias B.bias_whole B.gq B.gq_whole B.gk B.gk_whole B.cos B.cos_whole B.sin B.sin_whole B.mean B.mean_whole B.q B.q_whole B.k B.k_whole B.v B.v_whole B.f B.f_whole B.g B.g_whole B.n B.n_whole) K := by
  obtain ⟨b0, w0, b1, w1, b2, w2, b3, w3, b4, w4, b5, w5, b6, w6, b7, w7, b8, w8, b9, w9, b10, w10, b11, w11, b12, w12, b13, w13, b14, w14⟩ := B
  obtain ⟨x0, x1, x2, x3, x4, x5, x6, x7, x8⟩ := X
  obtain ⟨x9, x10, x11, x12, x13, x14⟩ := S
  have hcol := columns t
  obtain ⟨j, hjt⟩ : ∃ j, t.val % 8 = j := ⟨_, rfl⟩
  obtain ⟨i, hi⟩ : ∃ i, grid0.coords t = i := ⟨_, rfl⟩
  rw [hjt, hi] at hcol
  rw [hjt, hi]
  clear hjt hi t
  simp only [cc0_in_proj_eq_skeleton]; unfold cc0_in_proj_skel
  simp only [k0_part1_eq_skeleton, k0_part2_eq_skeleton, k0_part3_eq_skeleton, k0_part4_eq_skeleton, k0_part5_eq_skeleton, k0_part6_eq_skeleton, k0_part7_eq_skeleton]
  unfold owned owns
  dsimp only
  iintro ⟨⟨⟨%y0, %e0, H0⟩, ⟨%y1, %e1, H1⟩, ⟨%y2, %e2, H2⟩, ⟨%y3, %e3, H3⟩, ⟨%y4, %e4, H4⟩, ⟨%y5, %e5, H5⟩, ⟨%y6, %e6, H6⟩, ⟨%y7, %e7, H7⟩, ⟨%y8, %e8, H8⟩, ⟨%y9, %e9, H9⟩, ⟨%y10, %e10, H10⟩, ⟨%y11, %e11, H11⟩, ⟨%y12, %e12, H12⟩, ⟨%y13, %e13, H13⟩, ⟨%y14, %e14, H14⟩⟩, Hk⟩
  subst e0; subst e1; subst e2; subst e3; subst e4; subst e5; subst e6; subst e7; subst e8; subst e9; subst e10; subst e11; subst e12; subst e13; subst e14
  rcases hcol with ⟨hj, hc0, hc1, hc2, hc3, hc4⟩ | ⟨hj, hc0, hc1, hc2, hc3, hc4⟩ | ⟨hj, hc0, hc1, hc2, hc3, hc4⟩ | ⟨hj, hc0, hc1, hc2, hc3, hc4⟩ | ⟨hj, hc0, hc1, hc2, hc3, hc4⟩
  all_goals
    sl_exec (disch := first | sl_exact hc0 | sl_exact hc1 | sl_exact hc2 | sl_exact hc3 | sl_exact hc4)
    sl_step
    have hL0 : (View.readAt (Elt F) b0.view (Rect.unit (s := S1024x2048) ![0, 0] S1024x2048.size inb_S1024x2048_S1024x2048_0_0).toLoadRect y0) = b0.view.read (Elt F) y0 := View.readAt_full _ _ _
    have hL1 : (View.readAt (Elt F) b1.view (Rect.unit (s := S1x2048) ![0, 0] S1x2048.size inb_S1x2048_S1x2048_0_0).toLoadRect y1) = b1.view.read (Elt F) y1 := View.readAt_full _ _ _
    have hL4 : (View.readAt (Elt F) b4.view (Rect.unit (s := S1x256) ![0, 0] S1x256.size inb_S1x256_S1x256_0_0).toLoadRect y4) = b4.view.read (Elt F) y4 := View.readAt_full _ _ _
    have hL5 : (View.readAt (Elt F) b5.view (Rect.unit (s := S1x256) ![0, 0] S1x256.size inb_S1x256_S1x256_0_0).toLoadRect y5) = b5.view.read (Elt F) y5 := View.readAt_full _ _ _
    have hL6 : (View.readAt (Elt F) b6.view (Rect.unit (s := S1024x128) ![0, 0] S1024x128.size inb_S1024x128_S1024x128_0_0).toLoadRect y6) = b6.view.read (Elt F) y6 := View.readAt_full _ _ _
    have hL7 : (View.readAt (Elt F) b7.view (Rect.unit (s := S1024x128) ![0, 0] S1024x128.size inb_S1024x128_S1024x128_0_0).toLoadRect y7) = b7.view.read (Elt F) y7 := View.readAt_full _ _ _
    have hL8 : (View.readAt (Elt F) b8.view (Rect.unit (s := S256x256) ![0, 0] S256x256.size inb_S256x256_S256x256_0_0).toLoadRect y8) = b8.view.read (Elt F) y8 := View.readAt_full _ _ _
    have hL14 : (View.readAt (Elt F) b14.view (Rect.unit (s := S1024x2048) ![0, 0] S1024x2048.size inb_S1024x2048_S1024x2048_0_0).toLoadRect y14) = b14.view.read (Elt F) y14 := View.readAt_full _ _ _
    have hX : (⟨(View.readAt (Elt F) b0.view (Rect.unit (s := S1024x2048) ![0, 0] S1024x2048.size inb_S1024x2048_S1024x2048_0_0).toLoadRect y0), (View.readAt (Elt F) b1.view (Rect.unit (s := S1x2048) ![0, 0] S1x2048.size inb_S1x2048_S1x2048_0_0).toLoadRect y1), b2.view.read (Elt F) y2, b3.view.read (Elt F) y3, (View.readAt (Elt F) b4.view (Rect.unit (s := S1x256) ![0, 0] S1x256.size inb_S1x256_S1x256_0_0).toLoadRect y4), (View.readAt (Elt F) b5.view (Rect.unit (s := S1x256) ![0, 0] S1x256.size inb_S1x256_S1x256_0_0).toLoadRect y5), (View.readAt (Elt F) b6.view (Rect.unit (s := S1024x128) ![0, 0] S1024x128.size inb_S1024x128_S1024x128_0_0).toLoadRect y6), (View.readAt (Elt F) b7.view (Rect.unit (s := S1024x128) ![0, 0] S1024x128.size inb_S1024x128_S1024x128_0_0).toLoadRect y7), (View.readAt (Elt F) b8.view (Rect.unit (s := S256x256) ![0, 0] S256x256.size inb_S256x256_S256x256_0_0).toLoadRect y8)⟩ : Inputs F) = ⟨b0.view.read (Elt F) y0, b1.view.read (Elt F) y1, b2.view.read (Elt F) y2, b3.view.read (Elt F) y3, b4.view.read (Elt F) y4, b5.view.read (Elt F) y5, b6.view.read (Elt F) y6, b7.view.read (Elt F) y7, b8.view.read (Elt F) y8⟩ := by rw [hL0, hL1, hL4, hL5, hL6, hL7, hL8]
    have hN := hL14
    iapply Hk
    isplitl [H0]
    · iexists _; isplitr; swap
      · iexact H0
      ipureintro; exact rfl
    isplitl [H1]
    · iexists _; isplitr; swap
      · iexact H1
      ipureintro; exact rfl
    isplitl [H2]
    · iexists _; isplitr; swap
      · iexact H2
      ipureintro; exact rfl
    isplitl [H3]
    · iexists _; isplitr; swap
      · iexact H3
      ipureintro; exact rfl
    isplitl [H4]
    · iexists _; isplitr; swap
      · iexact H4
      ipureintro; exact rfl
    isplitl [H5]
    · iexists _; isplitr; swap
      · iexact H5
      ipureintro; exact rfl
    isplitl [H6]
    · iexists _; isplitr; swap
      · iexact H6
      ipureintro; exact rfl
    isplitl [H7]
    · iexists _; isplitr; swap
      · iexact H7
      ipureintro; exact rfl
    isplitl [H8]
    · iexists _; isplitr; swap
      · iexact H8
      ipureintro; exact rfl
    isplitl [H9]
    · iexists _; isplitr; swap
      · iexact H9
      ipureintro; first | (refine Eq.trans ?_ (step_q_idle (j := j) (by omega) _ _).symm; exact rfl) | (refine Eq.trans ?_ (step_q_live (j := j) (by omega) _ _).symm; rw [step_n_first (j := j) (by omega)]; refine (read_filled _ _ _ (qPieces ⟨(View.readAt (Elt F) b0.view (Rect.unit (s := S1024x2048) ![0, 0] S1024x2048.size inb_S1024x2048_S1024x2048_0_0).toLoadRect y0), (View.readAt (Elt F) b1.view (Rect.unit (s := S1x2048) ![0, 0] S1x2048.size inb_S1x2048_S1x2048_0_0).toLoadRect y1), b2.view.read (Elt F) y2, b3.view.read (Elt F) y3, (View.readAt (Elt F) b4.view (Rect.unit (s := S1x256) ![0, 0] S1x256.size inb_S1x256_S1x256_0_0).toLoadRect y4), (View.readAt (Elt F) b5.view (Rect.unit (s := S1x256) ![0, 0] S1x256.size inb_S1x256_S1x256_0_0).toLoadRect y5), (View.readAt (Elt F) b6.view (Rect.unit (s := S1024x128) ![0, 0] S1024x128.size inb_S1024x128_S1024x128_0_0).toLoadRect y6), (View.readAt (Elt F) b7.view (Rect.unit (s := S1024x128) ![0, 0] S1024x128.size inb_S1024x128_S1024x128_0_0).toLoadRect y7), (View.readAt (Elt F) b8.view (Rect.unit (s := S256x256) ![0, 0] S256x256.size inb_S256x256_S256x256_0_0).toLoadRect y8)⟩ (body_run.sl.v15 b0 b1 b14 y0 y1)) rfl (qPieces_cover _ _)).trans (by unfold body_run.sl.v15 body_run.sl.H14_1; rw [hX, View.readCov_cons_toLoadRect, hL0, hL1]; rfl)) | (refine Eq.trans ?_ (step_q_live (j := j) (by omega) _ _).symm; rw [step_n_later (j := j) (by omega)]; refine (read_filled _ _ _ (qPieces ⟨(View.readAt (Elt F) b0.view (Rect.unit (s := S1024x2048) ![0, 0] S1024x2048.size inb_S1024x2048_S1024x2048_0_0).toLoadRect y0), (View.readAt (Elt F) b1.view (Rect.unit (s := S1x2048) ![0, 0] S1x2048.size inb_S1x2048_S1x2048_0_0).toLoadRect y1), b2.view.read (Elt F) y2, b3.view.read (Elt F) y3, (View.readAt (Elt F) b4.view (Rect.unit (s := S1x256) ![0, 0] S1x256.size inb_S1x256_S1x256_0_0).toLoadRect y4), (View.readAt (Elt F) b5.view (Rect.unit (s := S1x256) ![0, 0] S1x256.size inb_S1x256_S1x256_0_0).toLoadRect y5), (View.readAt (Elt F) b6.view (Rect.unit (s := S1024x128) ![0, 0] S1024x128.size inb_S1024x128_S1024x128_0_0).toLoadRect y6), (View.readAt (Elt F) b7.view (Rect.unit (s := S1024x128) ![0, 0] S1024x128.size inb_S1024x128_S1024x128_0_0).toLoadRect y7), (View.readAt (Elt F) b8.view (Rect.unit (s := S256x256) ![0, 0] S256x256.size inb_S256x256_S256x256_0_0).toLoadRect y8)⟩ (View.readAt (Elt F) b14.view (Rect.unit (s := S1024x2048) ![0, 0] S1024x2048.size inb_S1024x2048_S1024x2048_0_0).toLoadRect y14)) rfl (qPieces_cover _ _)).trans (by rw [hX, hN]))
    isplitl [H10]
    · iexists _; isplitr; swap
      · iexact H10
      ipureintro; first | (refine Eq.trans ?_ (step_k_idle (j := j) (by omega) _ _).symm; exact rfl) | (refine Eq.trans ?_ (step_k_live (j := j) (by omega) _ _).symm; rw [step_n_later (j := j) (by omega)]; refine (read_filled _ _ _ (kPieces ⟨(View.readAt (Elt F) b0.view (Rect.unit (s := S1024x2048) ![0, 0] S1024x2048.size inb_S1024x2048_S1024x2048_0_0).toLoadRect y0), (View.readAt (Elt F) b1.view (Rect.unit (s := S1x2048) ![0, 0] S1x2048.size inb_S1x2048_S1x2048_0_0).toLoadRect y1), b2.view.read (Elt F) y2, b3.view.read (Elt F) y3, (View.readAt (Elt F) b4.view (Rect.unit (s := S1x256) ![0, 0] S1x256.size inb_S1x256_S1x256_0_0).toLoadRect y4), (View.readAt (Elt F) b5.view (Rect.unit (s := S1x256) ![0, 0] S1x256.size inb_S1x256_S1x256_0_0).toLoadRect y5), (View.readAt (Elt F) b6.view (Rect.unit (s := S1024x128) ![0, 0] S1024x128.size inb_S1024x128_S1024x128_0_0).toLoadRect y6), (View.readAt (Elt F) b7.view (Rect.unit (s := S1024x128) ![0, 0] S1024x128.size inb_S1024x128_S1024x128_0_0).toLoadRect y7), (View.readAt (Elt F) b8.view (Rect.unit (s := S256x256) ![0, 0] S256x256.size inb_S256x256_S256x256_0_0).toLoadRect y8)⟩ (View.readAt (Elt F) b14.view (Rect.unit (s := S1024x2048) ![0, 0] S1024x2048.size inb_S1024x2048_S1024x2048_0_0).toLoadRect y14)) rfl (kPieces_cover _ _)).trans (by rw [hX, hN]))
    isplitl [H11]
    · iexists _; isplitr; swap
      · iexact H11
      ipureintro; first | (refine Eq.trans ?_ (step_v_idle (j := j) (by omega) _ _).symm; exact rfl) | (refine Eq.trans ?_ (step_v_live (j := j) (by omega) _ _).symm; rw [step_n_later (j := j) (by omega)]; refine (read_filled _ _ _ (vPieces ⟨(View.readAt (Elt F) b0.view (Rect.unit (s := S1024x2048) ![0, 0] S1024x2048.size inb_S1024x2048_S1024x2048_0_0).toLoadRect y0), (View.readAt (Elt F) b1.view (Rect.unit (s := S1x2048) ![0, 0] S1x2048.size inb_S1x2048_S1x2048_0_0).toLoadRect y1), b2.view.read (Elt F) y2, b3.view.read (Elt F) y3, (View.readAt (Elt F) b4.view (Rect.unit (s := S1x256) ![0, 0] S1x256.size inb_S1x256_S1x256_0_0).toLoadRect y4), (View.readAt (Elt F) b5.view (Rect.unit (s := S1x256) ![0, 0] S1x256.size inb_S1x256_S1x256_0_0).toLoadRect y5), (View.readAt (Elt F) b6.view (Rect.unit (s := S1024x128) ![0, 0] S1024x128.size inb_S1024x128_S1024x128_0_0).toLoadRect y6), (View.readAt (Elt F) b7.view (Rect.unit (s := S1024x128) ![0, 0] S1024x128.size inb_S1024x128_S1024x128_0_0).toLoadRect y7), (View.readAt (Elt F) b8.view (Rect.unit (s := S256x256) ![0, 0] S256x256.size inb_S256x256_S256x256_0_0).toLoadRect y8)⟩ (View.readAt (Elt F) b14.view (Rect.unit (s := S1024x2048) ![0, 0] S1024x2048.size inb_S1024x2048_S1024x2048_0_0).toLoadRect y14)) rfl (vPieces_cover _ _)).trans (by rw [hX, hN]))
    isplitl [H12]
    · iexists _; isplitr; swap
      · iexact H12
      ipureintro; first | (refine Eq.trans ?_ (step_f_idle (j := j) (by omega) _ _).symm; exact rfl) | (refine Eq.trans ?_ (step_f_live (j := j) (by omega) _ _).symm; rw [step_n_later (j := j) (by omega)]; refine (read_filled _ _ _ (fPieces ⟨(View.readAt (Elt F) b0.view (Rect.unit (s := S1024x2048) ![0, 0] S1024x2048.size inb_S1024x2048_S1024x2048_0_0).toLoadRect y0), (View.readAt (Elt F) b1.view (Rect.unit (s := S1x2048) ![0, 0] S1x2048.size inb_S1x2048_S1x2048_0_0).toLoadRect y1), b2.view.read (Elt F) y2, b3.view.read (Elt F) y3, (View.readAt (Elt F) b4.view (Rect.unit (s := S1x256) ![0, 0] S1x256.size inb_S1x256_S1x256_0_0).toLoadRect y4), (View.readAt (Elt F) b5.view (Rect.unit (s := S1x256) ![0, 0] S1x256.size inb_S1x256_S1x256_0_0).toLoadRect y5), (View.readAt (Elt F) b6.view (Rect.unit (s := S1024x128) ![0, 0] S1024x128.size inb_S1024x128_S1024x128_0_0).toLoadRect y6), (View.readAt (Elt F) b7.view (Rect.unit (s := S1024x128) ![0, 0] S1024x128.size inb_S1024x128_S1024x128_0_0).toLoadRect y7), (View.readAt (Elt F) b8.view (Rect.unit (s := S256x256) ![0, 0] S256x256.size inb_S256x256_S256x256_0_0).toLoadRect y8)⟩ (View.readAt (Elt F) b14.view (Rect.unit (s := S1024x2048) ![0, 0] S1024x2048.size inb_S1024x2048_S1024x2048_0_0).toLoadRect y14)) rfl (fPieces_cover _ _)).trans (by rw [hX, hN]))
    isplitl [H13]
    · iexists _; isplitr; swap
      · iexact H13
      ipureintro; first | (refine Eq.trans ?_ (step_g_idle (j := j) (by omega) _ _).symm; exact rfl) | (refine Eq.trans ?_ (step_g_live (j := j) (by omega) _ _).symm; rw [step_n_later (j := j) (by omega)]; refine (read_filled _ _ _ (gPieces ⟨(View.readAt (Elt F) b0.view (Rect.unit (s := S1024x2048) ![0, 0] S1024x2048.size inb_S1024x2048_S1024x2048_0_0).toLoadRect y0), (View.readAt (Elt F) b1.view (Rect.unit (s := S1x2048) ![0, 0] S1x2048.size inb_S1x2048_S1x2048_0_0).toLoadRect y1), b2.view.read (Elt F) y2, b3.view.read (Elt F) y3, (View.readAt (Elt F) b4.view (Rect.unit (s := S1x256) ![0, 0] S1x256.size inb_S1x256_S1x256_0_0).toLoadRect y4), (View.readAt (Elt F) b5.view (Rect.unit (s := S1x256) ![0, 0] S1x256.size inb_S1x256_S1x256_0_0).toLoadRect y5), (View.readAt (Elt F) b6.view (Rect.unit (s := S1024x128) ![0, 0] S1024x128.size inb_S1024x128_S1024x128_0_0).toLoadRect y6), (View.readAt (Elt F) b7.view (Rect.unit (s := S1024x128) ![0, 0] S1024x128.size inb_S1024x128_S1024x128_0_0).toLoadRect y7), (View.readAt (Elt F) b8.view (Rect.unit (s := S256x256) ![0, 0] S256x256.size inb_S256x256_S256x256_0_0).toLoadRect y8)⟩ (View.readAt (Elt F) b14.view (Rect.unit (s := S1024x2048) ![0, 0] S1024x2048.size inb_S1024x2048_S1024x2048_0_0).toLoadRect y14)) rfl (gPieces_cover _ _)).trans (by rw [hX, hN]))
    iexists _; isplitr; swap
    · iexact H14
    ipureintro; first | (refine Eq.trans ?_ (step_n_later (j := j) (by omega) _ _).symm; exact rfl) | (refine Eq.trans ?_ (step_n_first (j := j) (by omega) _ _).symm; exact (read_full _ _ _ _).trans (by rw [hL0, hL1]; rfl))

end Cert.InProj

end
-- ==== Proof.InProj.Carry.lean ====
/-
  An output whose block is written back at a point that stores nothing into it: the buffer still holds what the last storing
  point left there, so the pipeline may take it as it is.
-/
module

public import Idealize.ShloMosaic.Lib.Pipeline.TableIdle

@[expose] public section

noncomputable section

namespace Cert.InProj

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg)

variable {nD : Nat} {τ : Topo} {sig : RefSig} {Val : EltTy → Type}
variable {Ix : Type} [DecidableEq Ix] {Name : Type} [DecidableEq Name] {U : Type} [RA.URA U] {Lvl : Type}
variable {Λ₀ : Labels} {cfg : Cfg sig Λ₀} {c : Dev nD}

/-- A point that stores into an output leaves what the proof data say. -/
theorem leaves_stored (dat : Dat τ Val Ix Name U Lvl cfg c) (w : Fin cfg.W) (t : Fin cfg.N) (hi : cfg.idle w (cfg.grid.coords t) = false) :
    dat.leavesExact w t = owns c ((cfg.win w).stage (cfg.slots t w)) fullShare (dat.after w t) := by
  unfold Dat.leavesExact; rw [hi]

/-- A point that leaves an output alone may leave the buffer as it found it, whether the block is written back there or not: where
    it is written back, what the point found is what the proof data say. -/
theorem leaves_carried (dat : Dat τ Val Ix Name U Lvl cfg c) (w : Fin cfg.W) (t : Fin cfg.N)
    (hw : (cfg.win w).isOut = true) (hclip : ∀ (i : cfg.grid.Coords) a, (cfg.win w).clip i a = none)
    (hcarry : ∀ (t : Fin cfg.N) (_ : t.val ≠ 0), cfg.idle w (cfg.grid.coords t) = true → cfg.fresh w t.val = false →
      dat.after w t = dat.after w ⟨t.val - 1, by omega⟩)
    (hi : cfg.idle w (cfg.grid.coords t) = true) (hf : (cfg.win w).flush t = true → cfg.fresh w t.val = false) (d) :
    owns c ((cfg.win w).stage (cfg.slots t w)) fullShare (dat.before w t d) ⊢ dat.leavesExact w t := by
  cases hfl : (cfg.win w).flush t
  · rw [dat.leavesExact_idle w t hi hfl]
    iintro H
    iexists d
    iexact H
  · have hf := hf hfl
    have h0 : t.val ≠ 0 := fun h => by rw [h] at hf; exact Bool.false_ne_true (hf.symm.trans (Cfg.fresh_zero cfg w))
    have hb : dat.before w t d = dat.after w t := by
      rw [dat.before_out_traj w hw hclip hcarry t.val t rfl d, hf, if_neg Bool.false_ne_true, hcarry t h0 hi hf]
    have e : dat.leavesExact w t = owns c ((cfg.win w).stage (cfg.slots t w)) fullShare (dat.after w t) := by
      unfold Dat.leavesExact; rw [hi, hfl]
    rw [hb, e]

end Cert.InProj

end
-- ==== Proof.InProj.Data.lean ====
/-
  The proof data of the projection's pipeline: what the buffers hold after each point.
-/
module

public import proofs.«01_k».proof.Proof.InProj.Exec
public import proofs.«01_k».proof.Proof.InProj.Carry
public import Idealize.ShloMosaic.Lib.Pipeline.TableIdle

@[expose] public section

set_option maxRecDepth 16384

noncomputable section

namespace Cert.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body reads at a point. -/
def inputs (c : Dev nD) (t : Fin cfg0.N) : Inputs F where
  h := iblk m c 0 t
  gain := iblk m c 1 t
  w := iblk m c 2 t
  bias := iblk m c 3 t
  gq := iblk m c 4 t
  gk := iblk m c 5 t
  cos := iblk m c 6 t
  sin := iblk m c 7 t
  mean := iblk m c 8 t

/-- What the buffers hold after a point: the body's step, from what they held after the point before. -/
def heldAt (c : Dev nD) : (n : ℕ) → n < cfg0.N → Held F
  | 0, h => step 0 (inputs m c ⟨0, h⟩) ⟨View.canon [], View.canon [], View.canon [], View.canon [], View.canon [], View.canon []⟩
  | n + 1, h => step ((n + 1) % 8) (inputs m c ⟨n + 1, h⟩) (heldAt c n (Nat.lt_of_succ_lt h))

/-- After a point that is not the first. -/
theorem heldAt_pos (c : Dev nD) (t : Fin cfg0.N) (h0 : t.val ≠ 0) :
    heldAt m c t.val t.isLt = step (t.val % 8) (inputs m c t) (heldAt m c (t.val - 1) (by omega)) := by
  obtain ⟨n, hn⟩ := t
  cases n with
  | zero => exact absurd rfl h0
  | succ n => rfl

/-- The pipeline's invariant: before the first point the scratch holds anything, and after a point the normed rows. -/
def PhiS (c : Dev nD) : (n : ℕ) → n ≤ cfg0.N → sProp 𝕄
  | 0, _ => Pipeline.ΦA spec0 c
  | n + 1, hn => iprop(owns (c : Thread nD τ) scM0_0 fullShare (heldAt m c n hn).n ∗ (∃ r, prngReg c r))

/-- The invariant before a point that is not the first. -/
theorem PhiS_pos (c : Dev nD) (n : ℕ) (h : n ≤ cfg0.N) (hz : n ≠ 0) :
    PhiS m c n h = iprop(owns (c : Thread nD τ) scM0_0 fullShare (heldAt m c (n - 1) (by omega)).n ∗ (∃ r, prngReg c r)) := by
  cases n with
  | zero => exact absurd rfl hz
  | succ n => rfl

/-- The pipeline's proof data on core `c`: the arrays as the region finds them, and the buffers after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (heldAt m c t.val t.isLt).q
    | ⟨10, _⟩ => (heldAt m c t.val t.isLt).k
    | ⟨11, _⟩ => (heldAt m c t.val t.isLt).v
    | ⟨12, _⟩ => (heldAt m c t.val t.isLt).f
    | ⟨13, _⟩ => (heldAt m c t.val t.isLt).g
  Φ t := PhiS m c t.val (Nat.le_of_lt_succ t.isLt)
  q _ := fullShare
  owed _ := 0

/-- The proof data's arrays are the contents at the region's entry. -/
theorem A_eq (c : Dev nD) (w : Fin cfg0.W) : (dats m 0 c).A w = V m c (Pipeline.arrRef spec0 w) := by dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (heldAt m c t.val t.isLt).q := by dsimp only [dats]
theorem after0_10 (c : Dev nD) (t : Fin cfg0.N) : (dats m 0 c).after 10 t = (heldAt m c t.val t.isLt).k := by dsimp only [dats]
theorem after0_11 (c : Dev nD) (t : Fin cfg0.N) : (dats m 0 c).after 11 t = (heldAt m c t.val t.isLt).v := by dsimp only [dats]
theorem after0_12 (c : Dev nD) (t : Fin cfg0.N) : (dats m 0 c).after 12 t = (heldAt m c t.val t.isLt).f := by dsimp only [dats]
theorem after0_13 (c : Dev nD) (t : Fin cfg0.N) : (dats m 0 c).after 13 t = (heldAt m c t.val t.isLt).g := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- A buffer that a point leaves alone holds after it what it held before. -/
theorem hcarry0_9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t h0 hi _
  rw [after0_9, after0_9, heldAt_pos m c t h0]
  exact step_q_idle (by rw [idle0_9] at hi; simpa using hi) _ _
theorem hcarry0_10 (c : Dev nD) : ∀ (t : Fin cfg0.N) (_ : t.val ≠ 0), cfg0.idle 10 (grid0.coords t) = true → cfg0.fresh 10 t.val = false →
    (dats m 0 c).after 10 t = (dats m 0 c).after 10 ⟨t.val - 1, by omega⟩ := by
  intro t h0 hi _
  rw [after0_10, after0_10, heldAt_pos m c t h0]
  exact step_k_idle (by rw [idle0_10] at hi; simpa using hi) _ _
theorem hcarry0_11 (c : Dev nD) : ∀ (t : Fin cfg0.N) (_ : t.val ≠ 0), cfg0.idle 11 (grid0.coords t) = true → cfg0.fresh 11 t.val = false →
    (dats m 0 c).after 11 t = (dats m 0 c).after 11 ⟨t.val - 1, by omega⟩ := by
  intro t h0 hi _
  rw [after0_11, after0_11, heldAt_pos m c t h0]
  exact step_v_idle (by rw [idle0_11] at hi; simpa using hi) _ _
theorem hcarry0_12 (c : Dev nD) : ∀ (t : Fin cfg0.N) (_ : t.val ≠ 0), cfg0.idle 12 (grid0.coords t) = true → cfg0.fresh 12 t.val = false →
    (dats m 0 c).after 12 t = (dats m 0 c).after 12 ⟨t.val - 1, by omega⟩ := by
  intro t h0 hi _
  rw [after0_12, after0_12, heldAt_pos m c t h0]
  exact step_f_idle (by rw [idle0_12] at hi; simpa using hi) _ _
theorem hcarry0_13 (c : Dev nD) : ∀ (t : Fin cfg0.N) (_ : t.val ≠ 0), cfg0.idle 13 (grid0.coords t) = true → cfg0.fresh 13 t.val = false →
    (dats m 0 c).after 13 t = (dats m 0 c).after 13 ⟨t.val - 1, by omega⟩ := by
  intro t h0 hi _
  rw [after0_13, after0_13, heldAt_pos m c t h0]
  exact step_g_idle (by rw [idle0_13] at hi; simpa using hi) _ _

end Cert.InProj

end
-- ==== Proof.InProj.Body.lean ====
/-
  The projection's body at any grid point, as the pipeline calls it.
-/
module

public import proofs.«01_k».proof.Proof.InProj.Data

@[expose] public section

set_option maxRecDepth 16384

noncomputable section

namespace Cert.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers that the body is called with at a point. -/
def bufs (t : Fin cfg0.N) : Bufs :=
  ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, ms0_11 t, hs0_11 t, ms0_12 t, hs0_12 t, ms0_13 t, hs0_13 t, scM0_0, (Memref.isWhole_whole _)⟩

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

/-- An output's buffer after the body's step is as the pipeline wants it: stored at a point of the output, and left alone at any other. -/
theorem leaves0_9 (c : Dev nD) (t : Fin cfg0.N) (S : Held F) (d) (hS : S.q = (dats m 0 c).before 9 t d)
    (hn : (step (t.val % 8) (inputs m c t) S).n = (heldAt m c t.val t.isLt).n)
    (hst : ∃ S', heldAt m c t.val t.isLt = step (t.val % 8) (inputs m c t) S') :
    owns (c : Thread nD τ) (ms0_9 t) fullShare (step (t.val % 8) (inputs m c t) S).q ⊢ (dats m 0 c).leavesExact 9 t := by
  by_cases h : t.val % 8 ≤ 1
  · rw [leaves_stored (dats m 0 c) 9 t ((idle0_9 t).trans (by simpa using h)), after0_9]
    have e : (step (t.val % 8) (inputs m c t) S).q = (heldAt m c t.val t.isLt).q := by
      obtain ⟨S', e⟩ := hst
      rw [e] at hn ⊢
      rw [step_q_live h, step_q_live h, hn]
    rw [e]
  · rw [step_q_idle h, hS]
    exact leaves_carried (dats m 0 c) 9 t rfl (fun _ _ => rfl) (hcarry0_9 m c) ((idle0_9 t).trans (by simpa using h)) (carried0_9 t ((idle0_9 t).trans (by simpa using h))) d
theorem leaves0_10 (c : Dev nD) (t : Fin cfg0.N) (S : Held F) (d) (hS : S.k = (dats m 0 c).before 10 t d)
    (hn : (step (t.val % 8) (inputs m c t) S).n = (heldAt m c t.val t.isLt).n)
    (hst : ∃ S', heldAt m c t.val t.isLt = step (t.val % 8) (inputs m c t) S') :
    owns (c : Thread nD τ) (ms0_10 t) fullShare (step (t.val % 8) (inputs m c t) S).k ⊢ (dats m 0 c).leavesExact 10 t := by
  by_cases h : t.val % 8 = 2
  · rw [leaves_stored (dats m 0 c) 10 t ((idle0_10 t).trans (by simpa using h)), after0_10]
    have e : (step (t.val % 8) (inputs m c t) S).k = (heldAt m c t.val t.isLt).k := by
      obtain ⟨S', e⟩ := hst
      rw [e] at hn ⊢
      rw [step_k_live h, step_k_live h, hn]
    rw [e]
  · rw [step_k_idle h, hS]
    exact leaves_carried (dats m 0 c) 10 t rfl (fun _ _ => rfl) (hcarry0_10 m c) ((idle0_10 t).trans (by simpa using h)) (carried0_10 t ((idle0_10 t).trans (by simpa using h))) d
theorem leaves0_11 (c : Dev nD) (t : Fin cfg0.N) (S : Held F) (d) (hS : S.v = (dats m 0 c).before 11 t d)
    (hn : (step (t.val % 8) (inputs m c t) S).n = (heldAt m c t.val t.isLt).n)
    (hst : ∃ S', heldAt m c t.val t.isLt = step (t.val % 8) (inputs m c t) S') :
    owns (c : Thread nD τ) (ms0_11 t) fullShare (step (t.val % 8) (inputs m c t) S).v ⊢ (dats m 0 c).leavesExact 11 t := by
  by_cases h : t.val % 8 = 2
  · rw [leaves_stored (dats m 0 c) 11 t ((idle0_11 t).trans (by simpa using h)), after0_11]
    have e : (step (t.val % 8) (inputs m c t) S).v = (heldAt m c t.val t.isLt).v := by
      obtain ⟨S', e⟩ := hst
      rw [e] at hn ⊢
      rw [step_v_live h, step_v_live h, hn]
    rw [e]
  · rw [step_v_idle h, hS]
    exact leaves_carried (dats m 0 c) 11 t rfl (fun _ _ => rfl) (hcarry0_11 m c) ((idle0_11 t).trans (by simpa using h)) (carried0_11 t ((idle0_11 t).trans (by simpa using h))) d
theorem leaves0_12 (c : Dev nD) (t : Fin cfg0.N) (S : Held F) (d) (hS : S.f = (dats m 0 c).before 12 t d)
    (hn : (step (t.val % 8) (inputs m c t) S).n = (heldAt m c t.val t.isLt).n)
    (hst : ∃ S', heldAt m c t.val t.isLt = step (t.val % 8) (inputs m c t) S') :
    owns (c : Thread nD τ) (ms0_12 t) fullShare (step (t.val % 8) (inputs m c t) S).f ⊢ (dats m 0 c).leavesExact 12 t := by
  by_cases h : t.val % 8 = 3
  · rw [leaves_stored (dats m 0 c) 12 t ((idle0_12 t).trans (by simpa using h)), after0_12]
    have e : (step (t.val % 8) (inputs m c t) S).f = (heldAt m c t.val t.isLt).f := by
      obtain ⟨S', e⟩ := hst
      rw [e] at hn ⊢
      rw [step_f_live h, step_f_live h, hn]
    rw [e]
  · rw [step_f_idle h, hS]
    exact leaves_carried (dats m 0 c) 12 t rfl (fun _ _ => rfl) (hcarry0_12 m c) ((idle0_12 t).trans (by simpa using h)) (carried0_12 t ((idle0_12 t).trans (by simpa using h))) d
theorem leaves0_13 (c : Dev nD) (t : Fin cfg0.N) (S : Held F) (d) (hS : S.g = (dats m 0 c).before 13 t d)
    (hn : (step (t.val % 8) (inputs m c t) S).n = (heldAt m c t.val t.isLt).n)
    (hst : ∃ S', heldAt m c t.val t.isLt = step (t.val % 8) (inputs m c t) S') :
    owns (c : Thread nD τ) (ms0_13 t) fullShare (step (t.val % 8) (inputs m c t) S).g ⊢ (dats m 0 c).leavesExact 13 t := by
  by_cases h : 4 ≤ t.val % 8
  · rw [leaves_stored (dats m 0 c) 13 t ((idle0_13 t).trans (by simpa using h)), after0_13]
    have e : (step (t.val % 8) (inputs m c t) S).g = (heldAt m c t.val t.isLt).g := by
      obtain ⟨S', e⟩ := hst
      rw [e] at hn ⊢
      rw [step_g_live h, step_g_live h, hn]
    rw [e]
  · rw [step_g_idle h, hS]
    exact leaves_carried (dats m 0 c) 13 t rfl (fun _ _ => rfl) (hcarry0_13 m c) ((idle0_13 t).trans (by simpa using h)) (carried0_13 t ((idle0_13 t).trans (by simpa using h))) d

/-- What the buffers hold after a point is the body's step from some contents. -/
theorem heldAt_step (c : Dev nD) (t : Fin cfg0.N) : ∃ S, heldAt m c t.val t.isLt = step (t.val % 8) (inputs m c t) S := by
  by_cases h0 : t.val = 0
  · obtain ⟨n, hn⟩ := t; cases n with
    | zero => exact ⟨_, rfl⟩
    | succ n => exact absurd h0 (Nat.succ_ne_zero n)
  · exact ⟨_, heldAt_pos m c t h0⟩

set_option maxHeartbeats 4000000 in
/-- The body at a point, from a scratch whose contents make the step's normed rows those of the point. -/
theorem body_at (c : Dev nD) (t : Fin cfg0.N) (s : Vec F S1024x2048 .bf16)
    (hn : ∀ S : Held F, S.n = s → (step (t.val % 8) (inputs m c t) S).n = (heldAt m c t.val t.isLt).n) :
    iprop((owns (c : Thread nD τ) scM0_0 fullShare s ∗ (∃ r, prngReg c r)) ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))
    ⊢ wp frame (wpE (defs₀ (F := F)) Variants.none c none) Set.univ (bodyAt0 t) (fun _ => bodyPost m c t) := by
  unfold bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = iprop(owns (c : Thread nD τ) scM0_0 fullShare (heldAt m c t.val t.isLt).n ∗ (∃ r, prngReg c r)) from rfl]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  have hn := hn ⟨(dats m 0 c).before 9 t d9, (dats m 0 c).before 10 t d10, (dats m 0 c).before 11 t d11, (dats m 0 c).before 12 t d12, (dats m 0 c).before 13 t d13, s⟩ rfl
  have hst := heldAt_step m c t
  iapply (body_run c t (bufs t) (inputs m c t) ⟨(dats m 0 c).before 9 t d9, (dats m 0 c).before 10 t d10, (dats m 0 c).before 11 t d11, (dats m 0 c).before 12 t d12, (dats m 0 c).before 13 t d13, s⟩ Set.univ _)
  unfold owned
  dsimp only [bufs, inputs]
  isplitl [H0 H1 H2 H3 H4 H5 H6 H7 H8 H9 H10 H11 H12 H13 HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact HS
  iintro ⟨H0, H1, H2, H3, H4, H5, H6, H7, H8, H9, H10, H11, H12, H13, HS⟩
  isplitl [HS Hg]
  · isplitl [HS]
    · rw [← hn]; iexact HS
    iexact Hg
  isplitl [Ho]; · iexact Ho
  isplitl [H0]
  · rw [leaves_stored (dats m 0 c) 0 t rfl, after0_0]; iexact H0
  isplitl [H1]
  · rw [leaves_stored (dats m 0 c) 1 t rfl, after0_1]; iexact H1
  isplitl [H2]
  · rw [leaves_stored (dats m 0 c) 2 t rfl, after0_2]; iexact H2
  isplitl [H3]
  · rw [leaves_stored (dats m 0 c) 3 t rfl, after0_3]; iexact H3
  isplitl [H4]
  · rw [leaves_stored (dats m 0 c) 4 t rfl, after0_4]; iexact H4
  isplitl [H5]
  · rw [leaves_stored (dats m 0 c) 5 t rfl, after0_5]; iexact H5
  isplitl [H6]
  · rw [leaves_stored (dats m 0 c) 6 t rfl, after0_6]; iexact H6
  isplitl [H7]
  · rw [leaves_stored (dats m 0 c) 7 t rfl, after0_7]; iexact H7
  isplitl [H8]
  · rw [leaves_stored (dats m 0 c) 8 t rfl, after0_8]; iexact H8
  isplitl [H9]
  · iapply (leaves0_9 m c t ⟨(dats m 0 c).before 9 t d9, (dats m 0 c).before 10 t d10, (dats m 0 c).before 11 t d11, (dats m 0 c).before 12 t d12, (dats m 0 c).before 13 t d13, s⟩ d9 rfl hn hst)
    iexact H9
  isplitl [H10]
  · iapply (leaves0_10 m c t ⟨(dats m 0 c).before 9 t d9, (dats m 0 c).before 10 t d10, (dats m 0 c).before 11 t d11, (dats m 0 c).before 12 t d12, (dats m 0 c).before 13 t d13, s⟩ d10 rfl hn hst)
    iexact H10
  isplitl [H11]
  · iapply (leaves0_11 m c t ⟨(dats m 0 c).before 9 t d9, (dats m 0 c).before 10 t d10, (dats m 0 c).before 11 t d11, (dats m 0 c).before 12 t d12, (dats m 0 c).before 13 t d13, s⟩ d11 rfl hn hst)
    iexact H11
  isplitl [H12]
  · iapply (leaves0_12 m c t ⟨(dats m 0 c).before 9 t d9, (dats m 0 c).before 10 t d10, (dats m 0 c).before 11 t d11, (dats m 0 c).before 12 t d12, (dats m 0 c).before 13 t d13, s⟩ d12 rfl hn hst)
    iexact H12
  iapply (leaves0_13 m c t ⟨(dats m 0 c).before 9 t d9, (dats m 0 c).before 10 t d10, (dats m 0 c).before 11 t d11, (dats m 0 c).before 12 t d12, (dats m 0 c).before 13 t d13, s⟩ d13 rfl hn hst)
  iexact H13

/-- The body at any point: at the first the scratch holds anything, for the point fills it, and at a later one the normed rows. -/
theorem sound_body (c : Dev nD) (t : Fin cfg0.N) :
    bodyPre m c t ⊢ wp frame (wpE (defs₀ (F := F)) Variants.none c none) Set.univ (bodyAt0 t) (fun _ => bodyPost m c t) := by
  unfold bodyPre
  rw [show (dats m 0 c).Φ t.castSucc = PhiS m c t.val (Nat.le_of_lt t.isLt) from by dsimp only [dats]; exact Pipeline.Dat.Φ_castSucc (PhiS m c) t]
  by_cases h0 : t.val = 0
  · rw [show PhiS m c t.val (Nat.le_of_lt t.isLt) = Pipeline.ΦA spec0 c from by
      obtain ⟨n, hn⟩ := t; cases n with
      | zero => rfl
      | succ n => exact absurd h0 (Nat.succ_ne_zero n), PhiA0_eq]
    iintro ⟨⟨⟨%s, HS⟩, Hg⟩, H⟩
    iapply (body_at m c t s (fun S _ => by
      obtain ⟨S', e⟩ := heldAt_step m c t
      rw [e, step_n_first (by omega), step_n_first (by omega)]))
    isplitl [HS Hg]
    · isplitl [HS]; · iexact HS
      iexact Hg
    iexact H
  · rw [PhiS_pos m c _ _ h0]
    refine body_at m c t _ (fun S hS => ?_)
    rw [heldAt_pos m c t h0]
    by_cases hj : t.val % 8 = 0
    · rw [step_n_first hj, step_n_first hj]
    · rw [step_n_later hj, step_n_later hj, hS]

end Cert.InProj

end
-- ==== Proof.InProj.Run.lean ====
/-
  The run of the projection call and its frame.
-/
module

public import proofs.«01_k».proof.Proof.InProj.Body

@[expose] public section

set_option maxRecDepth 16384

noncomputable section

namespace Cert.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at point `t`, as the pipeline calls it. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch hands the region the invariant before the first point, -/
theorem hin (c : Dev nD) : Pipeline.ΦA spec0 c ⊢ (dats m 0 c).Φ 0 := Idealize.SL.BI.Entails.refl _

/-- and takes it back after the last: what the scratch holds is forgotten. -/
theorem hout (c : Dev nD) : (dats m 0 c).Φ (Fin.last cfg0.N) ⊢ Pipeline.ΦA spec0 c := by
  have h : (Fin.last cfg0.N).val ≠ 0 := by rw [Fin.val_last]; have : cfg0.N = 128 := N_0; omega
  rw [show (dats m 0 c).Φ (Fin.last cfg0.N) = PhiS m c (Fin.last cfg0.N).val (Nat.le_of_lt_succ (Fin.last cfg0.N).isLt) from rfl, PhiS_pos m c _ _ h, PhiA0_eq]
  iintro ⟨HS, Hg⟩
  isplitl [HS]
  · iexists _; iexact HS
  iexact Hg

/-! ## The run and the frame -/
set_option backward.isDefEq.respectTransparency.types false in
/-- The run, with every semaphore counter at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every fair execution terminates, with every array of the pipeline as the proof data say. -/
theorem run_main : θ_run defs (onTc (τ := τ) (main (F := F))) (s₀ m ρ) (Pipeline.FramePost cfgs (dats m) 0 (V m)) :=
  (θ_run defs _ _).mono (fun _ h => h.1) (run_main_quiescent m ρ)

end Cert.InProj

end
-- ==== Proof.InProj.Frames.lean ====
/-
  The projection's frames: it runs to its end with its arguments unchanged and every counter at zero, at the machine's floats and
  over the extended reals, and its reference does.
-/
module

public import proofs.«01_k».proof.Defs
public import proofs.«01_k».proof.Proof.InProj.Run
public import proofs.«01_k».proof.Proof.Gen.Kernel4
public import Idealize.ShloMosaic.Lib.Tactic
public import proofs.«01_k».proof.Proof.Gen.Reference4Ideal.Run

@[expose] public section

set_option maxRecDepth 16384

noncomputable section

open Idealize.ShloMosaic Idealize.ShloMosaic.TcCoe Idealize.ShloMosaic.Tactic Idealize.SL.Sem
open Cert.Kernel4Ideal Cert.Kernel4Ideal.Gen

namespace Cert.InProj

/-- The projection's frame at float values `F`: it terminates with its arguments unchanged and every counter at zero. -/
def FrameAt (F : FTy → Type) [FloatOps F] : Prop :=
  ∀ (m : (ℓ : Loc nD τ sig) → Buf (Elt F) ℓ) (g : Dev nD → PrngReg), True →
    θ_run (Cert.Kernel4Ideal.defs (F := F)) (onTc (τ := τ) (Cert.Kernel4Ideal.main (F := F))) ⟨m, fun _ => 0, g⟩
      (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
      ∧ r.2.sem = fun _ => 0)

/-- The frame holds at any float values. -/
theorem frameAt (F : FTy → Type) [FloatOps F] : FrameAt F := fun m ρ _ =>
  (θ_run Cert.Kernel4Ideal.defs _ _).mono (fun _ h => ⟨unchanged m (dats m) h.1, h.2⟩) (run_main_quiescent (F := F) m ρ)

/-- The projection over the extended reals terminates with its arguments unchanged and every counter at zero. -/
theorem frame_ideal : Cert.quiescent_Kernel4Ideal (hKernel4Ideal := Cert.Kernel4Ideal.Gen.facts) := frameAt Ideal

/-- The two programs have the same text, so the frames at the machine's floats say the same. -/
theorem same_frame : Cert.quiescent_Kernel4 (hKernel4 := Cert.Kernel4.Gen.facts) = FrameAt Bits := by
  sl_kernel_rfl

/-- The projection at the machine's floats terminates with its arguments unchanged and every counter at zero. -/
theorem frame_bits : Cert.quiescent_Kernel4 (hKernel4 := Cert.Kernel4.Gen.facts) := same_frame.mpr (frameAt Bits)

/-- The projection's reference terminates with its arguments unchanged and every counter at zero: it declares no semaphore. -/
theorem frame_reference : Cert.quiescent_Reference4Ideal (hReference4Ideal := Cert.Reference4Ideal.Gen.facts) := fun m ρ _ =>
  (θ_run Cert.Reference4Ideal.defs _ _).mono
    (fun r h => ⟨fun c => (h c).2.2.2, sem_eq_zero_of_no_sems (by decide) r.2⟩) (Cert.Reference4Ideal.Value.run (F := Ideal) m ρ)

end Cert.InProj

end
-- ==== Proof.InProj.Args.lean ====
/-
  The arrays that the host code prepares for the projection, read at an index in terms of the arguments.
-/
module

public import proofs.«01_k».proof.Proof.InProj.Grid
public import proofs.«01_k».proof.Proof.Layout
public import Idealize.ShloMosaic.Lib.Routing.OpsSet
public import Idealize.ShloMosaic.Lib.Routing.OpsPair
public import Idealize.ShloMosaic.Lib.StableHlo.Run
public import Idealize.ShloMosaic.Lib.Pipeline.Frame
public import Idealize.ShloMosaic.Lib.Tactic

@[expose] public section

set_option maxRecDepth 16384

noncomputable section

open Idealize.ShloMosaic Idealize.ShloMosaic.TcCoe Idealize.SL.Sem

namespace Cert.InProj

open Cert.Kernel4Ideal Cert.Kernel4Ideal.Gen

variable (m : (ℓ : Loc nD τ sig) → Buf (Elt Ideal) ℓ)

/-- What the region finds, list by list of the host's operations. -/
theorem V_after (c : Dev nD) (b : Ref sig .tc) : V m c b = StableHlo.after hostOps0_4 (StableHlo.after hostOps0_3
    (StableHlo.after hostOps0_2 (StableHlo.after hostOps0_1 (StableHlo.after hostOps0 (fun b => m (c, b)))))) b := by
  simp only [V, List.flatten_cons, List.flatten_nil, List.append_nil, StableHlo.after_append]

/-- The input rows. -/
theorem rows_arg (c : Dev nD) (r : Fin 16384) (j : Fin 2048) :
    (V m c main_v48 (ix2 r j) : EReal) = m ((c : Thread nD τ).loc main_arg0) (ix3 0 r j) := by
  have h : (V m c main_v48 : Vec Ideal S16384x2048 .f32) = shapeCast S16384x2048 (m ((c : Thread nD τ).loc main_arg0)) shapeCasts_S1x16384x2048_S16384x2048 := by
    rw [V_after]; after_results_simp <;> rfl
  rw [h]
  exact Cert.Layout.drop_batch _ shapeCasts_S1x16384x2048_S16384x2048 _ _

/-- The gain of the norm. -/
theorem gain_arg (c : Dev nD) (j : Fin 2048) :
    (V m c main_v78 (ix2 0 j) : EReal) = m ((c : Thread nD τ).loc main_arg1) (ix2 0 j) := by
  have h : (V m c main_v78 : Vec Ideal S1x2048 .f32)
      = shapeCast S1x2048 (shapeCast S2048 (m ((c : Thread nD τ).loc main_arg1)) shapeCasts_S1x2048_S2048) shapeCasts_S2048_S1x2048 := by
    rw [V_after]; after_results_simp <;> rfl
  rw [h]
  exact (Cert.Layout.add_row _ shapeCasts_S2048_S1x2048 j).trans (Cert.Layout.drop_row _ shapeCasts_S1x2048_S2048 j)

/-- The gates' bias: the second half of the bias row. -/
theorem bias_arg (c : Dev nD) (a : Fin 2) (j : Fin 2048) (l : Fin 8192) (hl : l.val = 4096 + (a.val * 2048 + j.val)) :
    (V m c main_v52 (ix2 0 l) : EReal) = m ((c : Thread nD τ).loc main_arg3) (ix3 0 a j) := by
  have h : (V m c main_v52 : Vec Ideal S1x8192 .f32)
      = concatenate S1x8192 1 [⟨S1x4096, broadcastInDim S1x4096 ![] bcast_S_S1x4096 (constant (F := Ideal) S_ .f32 0x00000000#32)⟩,
          ⟨S1x4096, shapeCast S1x4096 (shapeCast S2x2048 (m ((c : Thread nD τ).loc main_arg3)) shapeCasts_S1x2x2048_S2x2048) shapeCasts_S2x2048_S1x4096⟩]
          concatenates_S1x4096_S1x4096_S1x8192_d1 := by
    rw [V_after]; after_results_simp <;> rfl
  rw [h, concatenate_pair_apply_right 1 _ _ concatenates_S1x4096_S1x4096_S1x8192_d1 (ix2 0 l) rfl rfl
    (ix2 0 ⟨a.val * 2048 + j.val, by omega⟩) (fun b hb => by
      match b with
      | ⟨0, _⟩ => rfl
      | ⟨1, _⟩ => exact absurd rfl hb) (by show a.val * 2048 + j.val + 4096 = l.val; omega)]
  refine (shapeCast_apply _ shapeCasts_S2x2048_S1x4096 _ (ix2 a j) ?_).trans
    (Cert.Layout.drop_batch _ shapeCasts_S1x2x2048_S2x2048 a j)
  rw [Shape.rowMajor_val_two, Shape.rowMajor_val_two]
  show a.val * 2048 + j.val = 0 * 4096 + (a.val * 2048 + j.val)
  omega

/-- The projection's matrix before its columns are permuted. -/
abbrev plain (c : Dev nD) : Vec Ideal S2048x8192 .bf16 :=
  truncf (F := Ideal) .bf16 (shapeCast S2048x8192 (m ((c : Thread nD τ).loc main_arg2)) shapeCasts_S1x2048x8192_S2048x8192) bitsLt_bf16_f32

/-- The columns of queries and keys, permuted within each head. -/
abbrev permuted (c : Dev nD) : Vec Ideal S2048x2560 .bf16 :=
  shapeCast S2048x2560 (transpose S2048x20x2x2x32 [0, 1, 3, 2, 4]
    (shapeCast S2048x20x2x2x32 (extractStridedSlice S2048x2560 ![0, 0] (plain m c) slices_S2048x8192_S2048x2560_0_0) shapeCasts_S2048x2560_S2048x20x2x2x32)
    transposes_S2048x20x2x2x32_S2048x20x2x2x32_0_1_3_2_4) shapeCasts_S2048x20x2x2x32_S2048x2560

/-- The projection's matrix. -/
theorem matrix_eq (c : Dev nD) : (V m c main_v60 : Vec Ideal S2048x8192 .bf16)
    = Host.scatter scatter_S2048x8192_S1_S2048x2560_01_n_1_0 (fun _ b => b) (plain m c)
        (broadcastInDim S1 ![] bcast_S_S1 (constantI S_ 32 0#32)) (permuted m c) := by
  rw [V_after]; after_results_simp <;> rfl

/-- Where the update that permutes the columns of queries and keys puts its elements: each at its own place. -/
theorem lands (k : S2048x2560.Idx) (r : Fin 2048) (l : Fin 8192) :
    scatter_S2048x8192_S1_S2048x2560_01_n_1_0.resultIdx? k (broadcastInDim S1 ![] bcast_S_S1 (constantI S_ 32 0#32)) = some (ix2 r l)
      ↔ (k 0).val = r.val ∧ (k 1).val = l.val := by
  have h0 : scatter_S2048x8192_S1_S2048x2560_01_n_1_0.start k (broadcastInDim S1 ![] bcast_S_S1 (constantI S_ 32 0#32)) 0 = 0 := by
    unfold ScatterDims.start
    rw [dif_neg (by decide)]
  have h1 : scatter_S2048x8192_S1_S2048x2560_01_n_1_0.start k (broadcastInDim S1 ![] bcast_S_S1 (constantI S_ 32 0#32)) 1 = 0 := by
    unfold ScatterDims.start
    rw [dif_pos (by decide)]
    rfl
  have w0 : scatter_S2048x8192_S1_S2048x2560_01_n_1_0.window k 0 = (k 0).val := by
    unfold ScatterDims.window
    rw [dif_pos (by decide)]
    rfl
  have w1 : scatter_S2048x8192_S1_S2048x2560_01_n_1_0.window k 1 = (k 1).val := by
    unfold ScatterDims.window
    rw [dif_pos (by decide)]
    rfl
  refine (Routing.resultIdx?_ix2 (R := 2048) (C := 8192) _ k _ r l).trans ?_
  erw [h0, w0, w1]
  omega

/-- The columns after those of queries and keys are the argument's. -/
theorem matrix_arg (c : Dev nD) (j : Fin 2048) (l : Fin 8192) (hl : 2560 ≤ l.val) :
    (V m c main_v60 (ix2 j l) : EReal) = m ((c : Thread nD τ).loc main_arg2) (ix3 0 j l) := by
  rw [matrix_eq, Routing.scatter_set_miss _ _ _ _ _ fun k hk => by
    have h := ((lands k j l).mp hk).2
    have hk1 : (k 1).val < 2560 := (k 1).isLt
    omega]
  exact Cert.Layout.drop_batch _ shapeCasts_S1x2048x8192_S2048x8192 j l

end Cert.InProj

end
-- ==== Proof.InProj.Row.lean ====
/-
  The projection on one row, over the extended reals: the row is scaled as in `RowNorm` and multiplied by the columns of the
  combined matrix; the gates' columns get their bias and go through the logistic function, which the call writes with a
  hyperbolic tangent.
-/
module

public import proofs.«01_k».proof.Proof.RowNorm
public import Mathlib.Analysis.SpecialFunctions.Trigonometric.DerivHyp

@[expose] public section

noncomputable section

open Idealize.ShloMosaic

namespace Cert.InProj

/-- One column of the product of a row with a matrix. -/
def column (u w : Fin 2048 → EReal) : EReal := ∑ k, u k * w k

/-- The word of one half. -/
theorem half_eq : Ideal.ofBits .f32 0x3F000000#32 = ((1 / 2 : ℝ) : EReal) := by
  simp [Ideal.ofBits, Ideal.ieee, -EReal.coe_mul]
  norm_num

/-- The logistic function over the reals, written with a hyperbolic tangent. -/
theorem tanh_real (x : ℝ) : 1 / 2 * Real.tanh (1 / 2 * x) + 1 / 2 = 1 / (1 + Real.exp (-x)) := by
  have ha : 0 < Real.exp (1 / 2 * x) := Real.exp_pos _
  have hx : Real.exp (-x) = (Real.exp (1 / 2 * x))⁻¹ * (Real.exp (1 / 2 * x))⁻¹ := by
    rw [← Real.exp_neg, ← Real.exp_add]; congr 1; ring
  rw [Real.tanh_eq_sinh_div_cosh, Real.sinh_eq, Real.cosh_eq, Real.exp_neg, hx]
  field_simp
  ring

/-- The same over the extended reals, infinities included. -/
theorem tanh_logistic (z : EReal) :
    Ideal.ofBits .f32 0x3F000000#32 * Ideal.tanh (Ideal.ofBits .f32 0x3F000000#32 * z) + Ideal.ofBits .f32 0x3F000000#32
      = Ideal.logistic z := by
  rw [half_eq]
  induction z with
  | bot =>
    rw [EReal.coe_mul_bot_of_pos (by norm_num), Ideal.tanh_bot, Ideal.logistic_bot, mul_neg_one, ← EReal.coe_neg, ← EReal.coe_add,
      neg_add_cancel, EReal.coe_zero]
  | top =>
    rw [EReal.coe_mul_top_of_pos (by norm_num), Ideal.tanh_top, Ideal.logistic_top, mul_one, ← EReal.coe_add, add_halves,
      EReal.coe_one]
  | coe x =>
    rw [← EReal.coe_mul, Ideal.tanh_coe, ← EReal.coe_mul, ← EReal.coe_add, Ideal.logistic_coe, tanh_real, one_div]

end Cert.InProj

end
-- ==== Proof.InProj.Block.lean ====
/-
  What one grid point of the projection puts into the buffers of the values, the Fourier input and the gates: products of the
  normed rows with the point's columns, read at an index.
-/
module

public import proofs.«01_k».proof.Proof.InProj.Row
public import proofs.«01_k».proof.Proof.InProj.Step
public import Idealize.ShloMosaic.Lib.Tactic

@[expose] public section

set_option maxRecDepth 16384

noncomputable section

open Idealize.ShloMosaic

namespace Cert.InProj

open Cert.Kernel4Ideal Cert.Kernel4Ideal.Gen

/-- The normed rows at an index. -/
theorem normed_apply (X : Inputs Ideal) (r : Fin 1024) (e : Fin 2048) :
    normed X (ix2 r e) = Cert.RowNorm.scaled (fun j => X.h (ix2 r j)) (fun j => X.gain (ix2 0 j)) e := by
  unfold normed k0_pay1
  pointwise
  rfl

/-- A piece of the Fourier input at an index. -/
theorem fourier_apply (n : Vec Ideal S1024x2048 .bf16) (w : Vec Ideal S2048x256 .bf16) (r : Fin 1024) (e : Fin 256) :
    (k0_pay10 n w (ix2 r e) : EReal) = column (fun k => n (ix2 r k)) (fun k => w (ix2 k e)) := by
  unfold k0_pay10
  pointwise
  rfl

/-- A piece of the transposed values at an index. -/
theorem values_apply (n : Vec Ideal S1024x2048 .bf16) (w : Vec Ideal S2048x256 .bf16) (e : Fin 256) (r : Fin 1024) :
    (k0_pay8 n w (ix2 e r) : EReal) = column (fun k => n (ix2 r k)) (fun k => w (ix2 k e)) := by
  unfold k0_pay8
  pointwise
  rfl

/-- A piece of the gates at an index. -/
theorem gates_apply (n : Vec Ideal S1024x2048 .bf16) (w : Vec Ideal S2048x256 .bf16) (b : Vec Ideal S1x256 .f32) (r : Fin 1024)
    (e : Fin 256) :
    (k0_pay45 n w b (ix2 r e) : EReal)
      = Ideal.logistic (column (fun k => n (ix2 r k)) (fun k => w (ix2 k e)) + b (ix2 0 e)) := by
  rw [← tanh_logistic]
  unfold k0_pay45
  pointwise
  rfl

/-- A strip of 256 columns of the point's matrix. -/
theorem strip_apply (w : Vec Ideal S2048x1024 .bf16) (o : ℕ) (h : ∀ a, (![0, o] : Fin 2 → ℕ) a + S2048x256.size a ≤ S2048x1024.size a)
    (k : Fin 2048) (e : Fin 256) (l : Fin 1024) (hl : l.val = o + e.val) :
    View.ld w (Rect.unit (s := S2048x1024) ![0, o] S2048x256.size h) (ix2 k e) = w (ix2 k l) :=
  congrArg w (funext fun a => Fin.ext (by
    match a with
    | ⟨0, _⟩ => show 0 + 1 * k.val = k.val; omega
    | ⟨1, _⟩ => show o + 1 * e.val = l.val; omega))

/-- A strip of 256 elements of the point's bias. -/
theorem bias_strip_apply (b : Vec Ideal S1x1024 .f32) (o : ℕ) (h : ∀ a, (![0, o] : Fin 2 → ℕ) a + S1x256.size a ≤ S1x1024.size a)
    (e : Fin 256) (l : Fin 1024) (hl : l.val = o + e.val) :
    View.ld b (Rect.unit (s := S1x1024) ![0, o] S1x256.size h) (ix2 0 e) = b (ix2 0 l) :=
  congrArg b (funext fun a => Fin.ext (by
    match a with
    | ⟨0, _⟩ => rfl
    | ⟨1, _⟩ => show o + 1 * e.val = l.val; omega))

/-- Where a piece of 256 columns of a square block puts its elements. -/
theorem square_place (o : ℕ) (h : ∀ a, (![0, o] : Fin 2 → ℕ) a + S1024x256.size a ≤ S1024x1024.size a) (r : Fin 1024) (e : Fin 256)
    (l : Fin 1024) (hl : l.val = o + e.val) :
    (Rect.unit (s := S1024x1024) ![0, o] S1024x256.size h).emb (ix2 r e) = ix2 r l :=
  funext fun a => Fin.ext (by
    match a with
    | ⟨0, _⟩ => show 0 + 1 * r.val = r.val; omega
    | ⟨1, _⟩ => show o + 1 * e.val = l.val; omega)

/-- The block of the Fourier input, as a function of its index. -/
abbrev fourierBlock (X : Inputs Ideal) (n : Vec Ideal S1024x2048 .bf16) (y : S1024x1024.Idx) : EReal :=
  column (fun k => n (ix2 (y 0) k)) (fun k => X.w (ix2 k (y 1)))

/-- Each piece of the Fourier input is its part of that function. -/
theorem fourier_piece (X : Inputs Ideal) (n : Vec Ideal S1024x2048 .bf16) (o : ℕ)
    (h : ∀ a, (![0, o] : Fin 2 → ℕ) a + S2048x256.size a ≤ S2048x1024.size a)
    (h' : ∀ a, (![0, o] : Fin 2 → ℕ) a + S1024x256.size a ≤ S1024x1024.size a) (x : S1024x256.Idx) :
    k0_pay10 n (View.ld X.w (Rect.unit (s := S2048x1024) ![0, o] S2048x256.size h)) x
      = fourierBlock X n ((Rect.unit (s := S1024x1024) ![0, o] S1024x256.size h').emb x) := by
  obtain ⟨r, e, rfl⟩ : ∃ (r : Fin 1024) (e : Fin 256), x = ix2 r e := ⟨x 0, x 1, eq_ix2 x⟩
  have ho : o + 256 ≤ 1024 := h 1
  have hl : o + e.val < 1024 := by have := e.isLt; omega
  rw [square_place o h' r e ⟨o + e.val, hl⟩ rfl, fourier_apply]
  simp only [strip_apply X.w o h _ e ⟨o + e.val, hl⟩ rfl]
  rfl

/-- The block of the Fourier input at an index. -/
theorem fourier_block (X : Inputs Ideal) (n : Vec Ideal S1024x2048 .bf16) (r e : Fin 1024) :
    (View.canon (fPieces X n) (ix2 r e) : EReal) = column (fun k => n (ix2 r k)) (fun k => X.w (ix2 k e)) := by
  refine View.canon_apply_of_pieces (Val := Elt Ideal) (e := .bf16) (fourierBlock X n) _ (fun p hp => ?_) _ (fPieces_cover X n _)
  simp only [fPieces, List.mem_cons, List.not_mem_nil, or_false] at hp
  rcases hp with rfl | rfl | rfl | rfl
  · exact fun x => fourier_piece X n 768 inb_S2048x1024_S2048x256_0_768 inb_S1024x1024_S1024x256_0_768 x
  · exact fun x => fourier_piece X n 512 inb_S2048x1024_S2048x256_0_512 inb_S1024x1024_S1024x256_0_512 x
  · exact fun x => fourier_piece X n 256 inb_S2048x1024_S2048x256_0_256 inb_S1024x1024_S1024x256_0_256 x
  · exact fun x => fourier_piece X n 0 inb_S2048x1024_S2048x256_0_0 inb_S1024x1024_S1024x256_0_0 x

/-- The block of gates, as a function of its index. -/
abbrev gatesBlock (X : Inputs Ideal) (n : Vec Ideal S1024x2048 .bf16) (y : S1024x1024.Idx) : EReal :=
  Ideal.logistic (column (fun k => n (ix2 (y 0) k)) (fun k => X.w (ix2 k (y 1))) + X.bias (ix2 0 (y 1)))

/-- Each piece of the gates is its part of that function. -/
theorem gates_piece (X : Inputs Ideal) (n : Vec Ideal S1024x2048 .bf16) (o : ℕ)
    (h : ∀ a, (![0, o] : Fin 2 → ℕ) a + S2048x256.size a ≤ S2048x1024.size a)
    (hb : ∀ a, (![0, o] : Fin 2 → ℕ) a + S1x256.size a ≤ S1x1024.size a)
    (h' : ∀ a, (![0, o] : Fin 2 → ℕ) a + S1024x256.size a ≤ S1024x1024.size a) (x : S1024x256.Idx) :
    k0_pay45 n (View.ld X.w (Rect.unit (s := S2048x1024) ![0, o] S2048x256.size h))
        (View.ld X.bias (Rect.unit (s := S1x1024) ![0, o] S1x256.size hb)) x
      = gatesBlock X n ((Rect.unit (s := S1024x1024) ![0, o] S1024x256.size h').emb x) := by
  obtain ⟨r, e, rfl⟩ : ∃ (r : Fin 1024) (e : Fin 256), x = ix2 r e := ⟨x 0, x 1, eq_ix2 x⟩
  have ho : o + 256 ≤ 1024 := h 1
  have hl : o + e.val < 1024 := by have := e.isLt; omega
  rw [square_place o h' r e ⟨o + e.val, hl⟩ rfl, gates_apply]
  simp only [strip_apply X.w o h _ e ⟨o + e.val, hl⟩ rfl, bias_strip_apply X.bias o hb e ⟨o + e.val, hl⟩ rfl]
  rfl

/-- The block of gates at an index. -/
theorem gates_block (X : Inputs Ideal) (n : Vec Ideal S1024x2048 .bf16) (r e : Fin 1024) :
    (View.canon (gPieces X n) (ix2 r e) : EReal)
      = Ideal.logistic (column (fun k => n (ix2 r k)) (fun k => X.w (ix2 k e)) + X.bias (ix2 0 e)) := by
  refine View.canon_apply_of_pieces (Val := Elt Ideal) (e := .bf16) (gatesBlock X n) _ (fun p hp => ?_) _ (gPieces_cover X n _)
  simp only [gPieces, List.mem_cons, List.not_mem_nil, or_false] at hp
  rcases hp with rfl | rfl | rfl | rfl
  · exact fun x => gates_piece X n 768 inb_S2048x1024_S2048x256_0_768 inb_S1x1024_S1x256_0_768 inb_S1024x1024_S1024x256_0_768 x
  · exact fun x => gates_piece X n 512 inb_S2048x1024_S2048x256_0_512 inb_S1x1024_S1x256_0_512 inb_S1024x1024_S1024x256_0_512 x
  · exact fun x => gates_piece X n 256 inb_S2048x1024_S2048x256_0_256 inb_S1x1024_S1x256_0_256 inb_S1024x1024_S1024x256_0_256 x
  · exact fun x => gates_piece X n 0 inb_S2048x1024_S2048x256_0_0 inb_S1x1024_S1x256_0_0 inb_S1024x1024_S1024x256_0_0 x

/-- The block of transposed values, as a function of its index: the values are the second half of the point's columns. -/
abbrev valuesBlock (X : Inputs Ideal) (n : Vec Ideal S1024x2048 .bf16) (y : S512x1024.Idx) : EReal :=
  column (fun k => n (ix2 (y 1) k)) (fun k => X.w (ix2 k ⟨512 + (y 0).val, by have : (y 0).val < 512 := (y 0).isLt; omega⟩))

/-- Each piece of the values is its part of that function. -/
theorem values_piece (X : Inputs Ideal) (n : Vec Ideal S1024x2048 .bf16) (o o' : ℕ) (hoo : o = 512 + o')
    (h : ∀ a, (![0, o] : Fin 2 → ℕ) a + S2048x256.size a ≤ S2048x1024.size a)
    (h' : ∀ a, (![o', 0] : Fin 2 → ℕ) a + S256x1024.size a ≤ S512x1024.size a) (x : S256x1024.Idx) :
    k0_pay8 n (View.ld X.w (Rect.unit (s := S2048x1024) ![0, o] S2048x256.size h)) x
      = valuesBlock X n ((Rect.unit (s := S512x1024) ![o', 0] S256x1024.size h').emb x) := by
  obtain ⟨e, r, rfl⟩ : ∃ (e : Fin 256) (r : Fin 1024), x = ix2 e r := ⟨x 0, x 1, eq_ix2 x⟩
  have ho : o + 256 ≤ 1024 := h 1
  have hl : o' + e.val < 512 := by have := e.isLt; omega
  have hp : (Rect.unit (s := S512x1024) ![o', 0] S256x1024.size h').emb (ix2 e r) = ix2 ⟨o' + e.val, hl⟩ r :=
    funext fun a => Fin.ext (by
      match a with
      | ⟨0, _⟩ => show o' + 1 * e.val = o' + e.val; omega
      | ⟨1, _⟩ => show 0 + 1 * r.val = r.val; omega)
  rw [hp, values_apply]
  simp only [strip_apply X.w o h _ e ⟨512 + (o' + e.val), by omega⟩ (by show 512 + (o' + e.val) = o + e.val; omega)]
  rfl

/-- The block of transposed values at an index. -/
theorem values_block (X : Inputs Ideal) (n : Vec Ideal S1024x2048 .bf16) (e : Fin 512) (r : Fin 1024) :
    (View.canon (vPieces X n) (ix2 e r) : EReal)
      = column (fun k => n (ix2 r k)) (fun k => X.w (ix2 k ⟨512 + e.val, by omega⟩)) := by
  refine View.canon_apply_of_pieces (Val := Elt Ideal) (e := .bf16) (valuesBlock X n) _ (fun p hp => ?_) _ (vPieces_cover X n _)
  simp only [vPieces, List.mem_cons, List.not_mem_nil, or_false] at hp
  rcases hp with rfl | rfl
  · exact fun x => values_piece X n 768 256 rfl inb_S2048x1024_S2048x256_0_768 inb_S512x1024_S256x1024_256_0 x
  · exact fun x => values_piece X n 512 0 rfl inb_S2048x1024_S2048x256_0_512 inb_S512x1024_S256x1024_0_0 x

end Cert.InProj

end
-- ==== Proof.InProj.Array.lean ====
/-
  The arrays of the projection's call: the transposed values, the Fourier input and the gates, each one function of the arguments.
-/
module

public import proofs.«01_k».proof.Proof.InProj.Args
public import proofs.«01_k».proof.Proof.InProj.Block
public import proofs.«01_k».proof.Proof.InProj.Data

@[expose] public section

set_option maxRecDepth 16384

noncomputable section

open Idealize.ShloMosaic Idealize.ShloMosaic.TcCoe Idealize.SL.Sem

namespace Cert.InProj

open Cert.Kernel4Ideal Cert.Kernel4Ideal.Gen

variable (m : (ℓ : Loc nD τ sig) → Buf (Elt Ideal) ℓ)

/-! ## The input blocks of a grid point, in terms of the arguments -/

/-- The grid has 16 row blocks of eight points each. -/
theorem points : cfg0.N = 128 := N_0

/-- Row `r` of point `n`'s row block, as a row of the whole array. -/
abbrev rowOf (n : ℕ) (hn : n < cfg0.N) (r : Fin 1024) : Fin 16384 := ⟨1024 * (n / 8) + r.val, by have := points; omega⟩

/-- Column `e` of point `n`'s columns, as a column of the whole matrix. -/
abbrev colOf (n : ℕ) (e : Fin 1024) : Fin 8192 := ⟨1024 * (n % 8) + e.val, by omega⟩

/-- Where each window's block lies: the row windows follow the row block, the matrix and the bias the column block. -/
theorem index_facts : ∀ t : Fin grid0.N,
    win0_0.index t 0 = t.val / 8 ∧ win0_0.index t 1 = 0 ∧ win0_1.index t 0 = 0 ∧ win0_1.index t 1 = 0
    ∧ win0_2.index t 0 = 0 ∧ win0_2.index t 1 = t.val % 8 ∧ win0_3.index t 0 = 0 ∧ win0_3.index t 1 = t.val % 8
    ∧ win0_11.index t 0 = 0 ∧ win0_11.index t 1 = t.val / 8 ∧ win0_12.index t 0 = t.val / 8 ∧ win0_12.index t 1 = 0
    ∧ win0_13.index t 0 = t.val / 8 ∧ win0_13.index t 1 = t.val % 8 - 4 := by
  decide +kernel

/-- The gates' buffer is written back exactly after the points that make gates. -/
theorem flush_gates : ∀ t : Fin cfg0.N, (cfg0.win 13).flush t = true ↔ 4 ≤ t.val % 8 := by decide +kernel

/-- Where the blocks of the four windows lie in any array: the rows, -/
theorem rows_read (A : Vec Ideal S16384x2048 .f32) (t : Fin cfg0.N) (r : Fin 1024) (j : Fin 2048) :
    ((cfg0.win 0).blk t).view.read (Elt Ideal) A (ix2 r j) = A (ix2 (rowOf t.val t.isLt r) j) := by
  obtain ⟨h0, h1, -⟩ := index_facts t
  rw [View.read_apply]
  refine congrArg A (funext fun a => Fin.ext ?_)
  match a with
  | ⟨0, _⟩ => show win0_0.index t 0 * 1024 + 1 * r.val = 1024 * (t.val / 8) + r.val; omega
  | ⟨1, _⟩ => show win0_0.index t 1 * 2048 + 1 * j.val = j.val; omega

/-- the gain, -/
theorem gain_read (A : Vec Ideal S1x2048 .f32) (t : Fin cfg0.N) (j : Fin 2048) :
    ((cfg0.win 1).blk t).view.read (Elt Ideal) A (ix2 0 j) = A (ix2 0 j) := by
  obtain ⟨-, -, h0, h1, -⟩ := index_facts t
  rw [View.read_apply]
  refine congrArg A (funext fun a => Fin.ext ?_)
  match a with
  | ⟨0, _⟩ => show win0_1.index t 0 * 1 + 1 * 0 = 0; omega
  | ⟨1, _⟩ => show win0_1.index t 1 * 2048 + 1 * j.val = j.val; omega

/-- the matrix, -/
theorem matrix_read (A : Vec Ideal S2048x8192 .bf16) (t : Fin cfg0.N) (k : Fin 2048) (e : Fin 1024) :
    ((cfg0.win 2).blk t).view.read (Elt Ideal) A (ix2 k e) = A (ix2 k (colOf t.val e)) := by
  obtain ⟨-, -, -, -, h0, h1, -⟩ := index_facts t
  rw [View.read_apply]
  refine congrArg A (funext fun a => Fin.ext ?_)
  match a with
  | ⟨0, _⟩ => show win0_2.index t 0 * 2048 + 1 * k.val = k.val; omega
  | ⟨1, _⟩ => show win0_2.index t 1 * 1024 + 1 * e.val = 1024 * (t.val % 8) + e.val; omega

/-- and the bias. -/
theorem bias_read (A : Vec Ideal S1x8192 .f32) (t : Fin cfg0.N) (e : Fin 1024) :
    ((cfg0.win 3).blk t).view.read (Elt Ideal) A (ix2 0 e) = A (ix2 0 (colOf t.val e)) := by
  obtain ⟨-, -, -, -, -, -, h0, h1, -⟩ := index_facts t
  rw [View.read_apply]
  refine congrArg A (funext fun a => Fin.ext ?_)
  match a with
  | ⟨0, _⟩ => show win0_3.index t 0 * 1 + 1 * 0 = 0; omega
  | ⟨1, _⟩ => show win0_3.index t 1 * 1024 + 1 * e.val = 1024 * (t.val % 8) + e.val; omega

/-- The input rows of grid point `t`. -/
theorem rows_block (c : Dev nD) (t : Fin cfg0.N) (r : Fin 1024) (j : Fin 2048) :
    (iblk m c 0 t (ix2 r j) : EReal) = m ((c : Thread nD τ).loc main_arg0) (ix3 0 (rowOf t.val t.isLt r) j) :=
  (rows_read (V m c main_v48) t r j).trans (rows_arg m c _ _)

/-- The gain, at every grid point. -/
theorem gain_block (c : Dev nD) (t : Fin cfg0.N) (j : Fin 2048) :
    (iblk m c 1 t (ix2 0 j) : EReal) = m ((c : Thread nD τ).loc main_arg1) (ix2 0 j) :=
  (gain_read (V m c main_v78) t j).trans (gain_arg m c _)

/-- The columns of grid point `t`, after those of queries and keys. -/
theorem matrix_block (c : Dev nD) (t : Fin cfg0.N) (k : Fin 2048) (e : Fin 1024) (he : 2560 ≤ (colOf t.val e).val) :
    (iblk m c 2 t (ix2 k e) : EReal) = m ((c : Thread nD τ).loc main_arg2) (ix3 0 k (colOf t.val e)) :=
  (matrix_read (V m c main_v60) t k e).trans (matrix_arg m c _ _ he)

/-- The bias of a grid point that makes gates. -/
theorem bias_block (c : Dev nD) (t : Fin cfg0.N) (e : Fin 1024) (a : Fin 2) (j : Fin 2048)
    (he : (colOf t.val e).val = 4096 + (a.val * 2048 + j.val)) :
    (iblk m c 3 t (ix2 0 e) : EReal) = m ((c : Thread nD τ).loc main_arg3) (ix3 0 a j) :=
  (bias_read (V m c main_v52) t e).trans (bias_arg m c a j _ he)

/-! ## What the buffers hold after each grid point -/

/-- The scaled input row `q`. -/
def scaledRow (c : Dev nD) (q : Fin 16384) : Fin 2048 → EReal :=
  Cert.RowNorm.scaled (fun j => m ((c : Thread nD τ).loc main_arg0) (ix3 0 q j))
    (fun j => m ((c : Thread nD τ).loc main_arg1) (ix2 0 j))

/-- Column `l` of the projected row `q`. -/
def projected (c : Dev nD) (q : Fin 16384) (l : Fin 8192) : EReal :=
  column (scaledRow m c q) (fun k => m ((c : Thread nD τ).loc main_arg2) (ix3 0 k l))

/-- A first point of a row block norms the block's rows. -/
theorem normed_rows (c : Dev nD) (t : Fin cfg0.N) (r : Fin 1024) (e : Fin 2048) :
    normed (inputs m c t) (ix2 r e) = scaledRow m c (rowOf t.val t.isLt r) e := by
  rw [normed_apply]
  unfold inputs
  simp only [rows_block, gain_block]
  rfl

/-- The scratch after grid point `n`: the scaled rows of its row block. -/
theorem rows_held (c : Dev nD) (n : ℕ) (hn : n < cfg0.N) (r : Fin 1024) (e : Fin 2048) :
    ((heldAt m c n hn).n (ix2 r e) : EReal) = scaledRow m c (rowOf n hn r) e := by
  induction n with
  | zero => exact normed_rows m c ⟨0, hn⟩ r e
  | succ n ih =>
    unfold heldAt
    by_cases h0 : (n + 1) % 8 = 0
    · rw [step_n_first h0]
      exact normed_rows m c ⟨n + 1, hn⟩ r e
    · rw [step_n_later h0, ih (by omega)]
      exact congrArg (fun q => scaledRow m c q e) (Fin.ext (by
        show 1024 * (n / 8) + r.val = 1024 * ((n + 1) / 8) + r.val
        omega))

/-- What a point's columns make of the scaled rows. -/
theorem column_held (c : Dev nD) (t : Fin cfg0.N) (r e : Fin 1024) (l : Fin 8192) (hl : colOf t.val e = l) (h : 2560 ≤ l.val) :
    column (fun k => (heldAt m c t.val t.isLt).n (ix2 r k)) (fun k => (inputs m c t).w (ix2 k e))
      = projected m c (rowOf t.val t.isLt r) l := by
  subst hl
  have h1 : (fun k => ((heldAt m c t.val t.isLt).n (ix2 r k) : EReal)) = scaledRow m c (rowOf t.val t.isLt r) :=
    funext fun k => rows_held m c t.val t.isLt r k
  have h2 : (fun k => ((inputs m c t).w (ix2 k e) : EReal))
      = fun k => m ((c : Thread nD τ).loc main_arg2) (ix3 0 k (colOf t.val e)) := by
    unfold inputs
    funext k
    simp only [matrix_block m c t k e h]
  unfold projected
  rw [h1, h2]

/-- The values' buffer from the third point of a row block on. -/
theorem values_held (c : Dev nD) (n : ℕ) (hn : n < cfg0.N) (h2 : 2 ≤ n % 8) (e : Fin 512) (r : Fin 1024) :
    ((heldAt m c n hn).v (ix2 e r) : EReal) = projected m c (rowOf n hn r) ⟨2560 + e.val, by omega⟩ := by
  induction n with
  | zero => omega
  | succ n ih =>
    by_cases h : (n + 1) % 8 = 2
    · have hs : (heldAt m c (n + 1) hn).v = View.canon (vPieces (inputs m c ⟨n + 1, hn⟩) (heldAt m c (n + 1) hn).n) := step_v_live h _ _
      rw [hs, values_block]
      exact column_held m c ⟨n + 1, hn⟩ r ⟨512 + e.val, by omega⟩ _ (Fin.ext (by
        show 1024 * ((n + 1) % 8) + (512 + e.val) = 2560 + e.val
        omega)) (by show 2560 ≤ 2560 + e.val; omega)
    · have hs : (heldAt m c (n + 1) hn).v = (heldAt m c n (by omega)).v := step_v_idle h _ _
      rw [hs, ih (by omega) (by omega)]
      exact congrArg (fun q => projected m c q _) (Fin.ext (by
        show 1024 * (n / 8) + r.val = 1024 * ((n + 1) / 8) + r.val
        omega))

/-- The buffer of the Fourier input from the fourth point of a row block on. -/
theorem fourier_held (c : Dev nD) (n : ℕ) (hn : n < cfg0.N) (h3 : 3 ≤ n % 8) (r e : Fin 1024) :
    ((heldAt m c n hn).f (ix2 r e) : EReal) = projected m c (rowOf n hn r) ⟨3072 + e.val, by omega⟩ := by
  induction n with
  | zero => omega
  | succ n ih =>
    by_cases h : (n + 1) % 8 = 3
    · have hs : (heldAt m c (n + 1) hn).f = View.canon (fPieces (inputs m c ⟨n + 1, hn⟩) (heldAt m c (n + 1) hn).n) := step_f_live h _ _
      rw [hs, fourier_block]
      exact column_held m c ⟨n + 1, hn⟩ r e _ (Fin.ext (by
        show 1024 * ((n + 1) % 8) + e.val = 3072 + e.val
        omega)) (by show 2560 ≤ 3072 + e.val; omega)
    · have hs : (heldAt m c (n + 1) hn).f = (heldAt m c n (by omega)).f := step_f_idle h _ _
      rw [hs, ih (by omega) (by omega)]
      exact congrArg (fun q => projected m c q _) (Fin.ext (by
        show 1024 * (n / 8) + r.val = 1024 * ((n + 1) / 8) + r.val
        omega))

/-- One gate of row `q`. -/
def gate (c : Dev nD) (q : Fin 16384) (l : Fin 4096) : EReal :=
  Ideal.logistic (projected m c q ⟨4096 + l.val, by omega⟩
    + m ((c : Thread nD τ).loc main_arg3) (ix3 0 (⟨l.val / 2048, by omega⟩ : Fin 2) (⟨l.val % 2048, by omega⟩ : Fin 2048)))

/-- The gates' buffer after a point that makes gates. -/
theorem gates_held (c : Dev nD) (t : Fin cfg0.N) (h4 : 4 ≤ t.val % 8) (r e : Fin 1024) :
    ((heldAt m c t.val t.isLt).g (ix2 r e) : EReal)
      = gate m c (rowOf t.val t.isLt r) ⟨1024 * (t.val % 8 - 4) + e.val, by omega⟩ := by
  have hs : (heldAt m c t.val t.isLt).g = View.canon (gPieces (inputs m c t) (heldAt m c t.val t.isLt).n) := by
    rw [heldAt_pos m c t (by omega)]
    exact step_g_live h4 _ _
  rw [hs, gates_block]
  unfold gate
  rw [column_held m c t r e ⟨4096 + (1024 * (t.val % 8 - 4) + e.val), by omega⟩ (Fin.ext (by
    show 1024 * (t.val % 8) + e.val = 4096 + (1024 * (t.val % 8 - 4) + e.val)
    omega)) (by show 2560 ≤ 4096 + (1024 * (t.val % 8 - 4) + e.val); omega)]
  refine congrArg (fun b : EReal => Ideal.logistic (_ + b)) (bias_block m c t e _ _ ?_)
  show 1024 * (t.val % 8) + e.val = 4096 + ((1024 * (t.val % 8 - 4) + e.val) / 2048 * 2048 + (1024 * (t.val % 8 - 4) + e.val) % 2048)
  omega

/-! ## The result arrays -/

/-- The transposed values as one function of the arguments. -/
def values (c : Dev nD) : Vec Ideal S512x16384 .bf16 := fun i =>
  projected m c (i 1) ⟨2560 + (i 0).val, by have : (i 0).val < 512 := (i 0).isLt; omega⟩

/-- The Fourier input as one function of the arguments. -/
def fourier (c : Dev nD) : Vec Ideal S16384x1024 .bf16 := fun i =>
  projected m c (i 0) ⟨3072 + (i 1).val, by have : (i 1).val < 1024 := (i 1).isLt; omega⟩

/-- The gates as one function of the arguments. -/
def gates (c : Dev nD) : Vec Ideal S16384x4096 .bf16 := fun i => gate m c (i 0) (i 1)

/-- The values that a row block's last grid point writes back. -/
theorem values_flushed (c : Dev nD) (t : Fin cfg0.N) (h : t.val % 8 = 7) :
    (dats m 0 c).flushed 11 t = ((cfg0.win 11).blk t).view.read (Elt Ideal) (values m c) := by
  obtain ⟨-, -, -, -, -, -, -, -, h0, h1, -⟩ := index_facts t
  funext y
  obtain ⟨e, r, rfl⟩ : ∃ (e : Fin 512) (r : Fin 1024), y = ix2 e r := ⟨y 0, y 1, eq_ix2 y⟩
  rw [View.read_apply]
  have hi : ((cfg0.win 11).blk t).view.emb (ix2 e r) = ix2 e (rowOf t.val t.isLt r) := by
    funext a
    apply Fin.ext
    match a with
    | ⟨0, _⟩ => show win0_11.index t 0 * 512 + 1 * e.val = e.val; omega
    | ⟨1, _⟩ => show win0_11.index t 1 * 1024 + 1 * r.val = 1024 * (t.val / 8) + r.val; omega
  rw [hi]
  exact values_held m c t.val t.isLt (by omega) e r

/-- The Fourier input that a row block's last grid point writes back. -/
theorem fourier_flushed (c : Dev nD) (t : Fin cfg0.N) (h : t.val % 8 = 7) :
    (dats m 0 c).flushed 12 t = ((cfg0.win 12).blk t).view.read (Elt Ideal) (fourier m c) := by
  obtain ⟨-, -, -, -, -, -, -, -, -, -, h0, h1, -⟩ := index_facts t
  funext y
  obtain ⟨r, e, rfl⟩ : ∃ (r e : Fin 1024), y = ix2 r e := ⟨y 0, y 1, eq_ix2 y⟩
  rw [View.read_apply]
  have hi : ((cfg0.win 12).blk t).view.emb (ix2 r e) = ix2 (rowOf t.val t.isLt r) e := by
    funext a
    apply Fin.ext
    match a with
    | ⟨0, _⟩ => show win0_12.index t 0 * 1024 + 1 * r.val = 1024 * (t.val / 8) + r.val; omega
    | ⟨1, _⟩ => show win0_12.index t 1 * 1024 + 1 * e.val = e.val; omega
  rw [hi]
  exact fourier_held m c t.val t.isLt (by omega) r e

/-- The gates that a grid point writes back. -/
theorem gates_flushed (c : Dev nD) (t : Fin cfg0.N) (h : 4 ≤ t.val % 8) :
    (dats m 0 c).flushed 13 t = ((cfg0.win 13).blk t).view.read (Elt Ideal) (gates m c) := by
  obtain ⟨-, -, -, -, -, -, -, -, -, -, -, -, h0, h1⟩ := index_facts t
  funext y
  obtain ⟨r, e, rfl⟩ : ∃ (r e : Fin 1024), y = ix2 r e := ⟨y 0, y 1, eq_ix2 y⟩
  rw [View.read_apply]
  have hi : ((cfg0.win 13).blk t).view.emb (ix2 r e) = ix2 (rowOf t.val t.isLt r) ⟨1024 * (t.val % 8 - 4) + e.val, by omega⟩ := by
    funext a
    apply Fin.ext
    match a with
    | ⟨0, _⟩ => show win0_13.index t 0 * 1024 + 1 * r.val = 1024 * (t.val / 8) + r.val; omega
    | ⟨1, _⟩ => show win0_13.index t 1 * 1024 + 1 * e.val = 1024 * (t.val % 8 - 4) + e.val; omega
  rw [hi]
  exact gates_held m c t h r e

/-- Every index of the values lies in a block that is written back. -/
theorem values_covered (i : S512x16384.Idx) :
    ∃ t : Fin cfg0.N, (cfg0.win 11).flush t = true ∧ i ∈ ((cfg0.win 11).blk t).view.set := by
  have hN := points
  have he : (i 0).val < 512 := (i 0).isLt
  have hr : (i 1).val < 16384 := (i 1).isLt
  let t : Fin cfg0.N := ⟨8 * ((i 1).val / 1024) + 7, by omega⟩
  obtain ⟨-, -, -, -, -, -, -, -, h0, h1, -⟩ := index_facts t
  refine ⟨t, (flush0_11 t).mpr (by show (8 * ((i 1).val / 1024) + 7) % 8 = 7; omega), ?_⟩
  have hm := View.emb_mem_set ((cfg0.win 11).blk t).view (ix2 ⟨(i 0).val, he⟩ ⟨(i 1).val % 1024, by omega⟩)
  refine (congrArg (· ∈ ((cfg0.win 11).blk t).view.set) (?_ : i = _)).mpr hm
  funext a
  apply Fin.ext
  match a with
  | ⟨0, _⟩ => show (i 0).val = win0_11.index t 0 * 512 + 1 * (i 0).val; omega
  | ⟨1, _⟩ =>
    show (i 1).val = win0_11.index t 1 * 1024 + 1 * ((i 1).val % 1024)
    rw [h1]
    show _ = (8 * ((i 1).val / 1024) + 7) / 8 * 1024 + _
    omega

/-- Every index of the Fourier input lies in a block that is written back. -/
theorem fourier_covered (i : S16384x1024.Idx) :
    ∃ t : Fin cfg0.N, (cfg0.win 12).flush t = true ∧ i ∈ ((cfg0.win 12).blk t).view.set := by
  have hN := points
  have hr : (i 0).val < 16384 := (i 0).isLt
  have he : (i 1).val < 1024 := (i 1).isLt
  let t : Fin cfg0.N := ⟨8 * ((i 0).val / 1024) + 7, by omega⟩
  obtain ⟨-, -, -, -, -, -, -, -, -, -, h0, h1, -⟩ := index_facts t
  refine ⟨t, (flush0_12 t).mpr (by show (8 * ((i 0).val / 1024) + 7) % 8 = 7; omega), ?_⟩
  have hm := View.emb_mem_set ((cfg0.win 12).blk t).view (ix2 ⟨(i 0).val % 1024, by omega⟩ ⟨(i 1).val, he⟩)
  refine (congrArg (· ∈ ((cfg0.win 12).blk t).view.set) (?_ : i = _)).mpr hm
  funext a
  apply Fin.ext
  match a with
  | ⟨0, _⟩ =>
    show (i 0).val = win0_12.index t 0 * 1024 + 1 * ((i 0).val % 1024)
    rw [h0]
    show _ = (8 * ((i 0).val / 1024) + 7) / 8 * 1024 + _
    omega
  | ⟨1, _⟩ => show (i 1).val = win0_12.index t 1 * 1024 + 1 * (i 1).val; omega

/-- Every index of the gates lies in a block that is written back. -/
theorem gates_covered (i : S16384x4096.Idx) :
    ∃ t : Fin cfg0.N, (cfg0.win 13).flush t = true ∧ i ∈ ((cfg0.win 13).blk t).view.set := by
  have hN := points
  have hr : (i 0).val < 16384 := (i 0).isLt
  have he : (i 1).val < 4096 := (i 1).isLt
  let t : Fin cfg0.N := ⟨8 * ((i 0).val / 1024) + ((i 1).val / 1024 + 4), by omega⟩
  have ht : t.val = 8 * ((i 0).val / 1024) + ((i 1).val / 1024 + 4) := rfl
  obtain ⟨-, -, -, -, -, -, -, -, -, -, -, -, h0, h1⟩ := index_facts t
  refine ⟨t, (flush_gates t).mpr (by omega), ?_⟩
  have hm := View.emb_mem_set ((cfg0.win 13).blk t).view (ix2 ⟨(i 0).val % 1024, by omega⟩ ⟨(i 1).val % 1024, by omega⟩)
  refine (congrArg (· ∈ ((cfg0.win 13).blk t).view.set) (?_ : i = _)).mpr hm
  funext a
  apply Fin.ext
  match a with
  | ⟨0, _⟩ => show (i 0).val = win0_13.index t 0 * 1024 + 1 * ((i 0).val % 1024); rw [h0, ht]; omega
  | ⟨1, _⟩ => show (i 1).val = win0_13.index t 1 * 1024 + 1 * ((i 1).val % 1024); rw [h1, ht]; omega

/-- The values after the run, -/
theorem values_array (c : Dev nD) : (dats m 0 c).arrAt 11 cfg0.N = values m c :=
  (dats m 0 c).arrAt_eq_of_cover 11 (values m c) (fun t h => values_flushed m c t ((flush0_11 t).mp h)) values_covered

/-- the Fourier input, -/
theorem fourier_array (c : Dev nD) : (dats m 0 c).arrAt 12 cfg0.N = fourier m c :=
  (dats m 0 c).arrAt_eq_of_cover 12 (fourier m c) (fun t h => fourier_flushed m c t ((flush0_12 t).mp h)) fourier_covered

/-- and the gates. -/
theorem gates_array (c : Dev nD) : (dats m 0 c).arrAt 13 cfg0.N = gates m c :=
  (dats m 0 c).arrAt_eq_of_cover 13 (gates m c) (fun t h => gates_flushed m c t ((flush_gates t).mp h)) gates_covered

end Cert.InProj

end
-- ==== Proof.InProj.Reference.lean ====
/-
  What the projection's reference computes: the values, the Fourier input and the gates, each at an index, in terms of one row of
  the input and one column of the matrix.
-/
module

public import proofs.«01_k».proof.Proof.InProj.Row
public import proofs.«01_k».proof.Proof.Layout
public import proofs.«01_k».proof.Proof.Gen.Reference4Ideal.Read

@[expose] public section

set_option maxRecDepth 16384

noncomputable section

open Idealize.ShloMosaic

namespace Cert.Reference4Ideal.InProj

open Cert.Reference4Ideal Cert.Reference4Ideal.Gen Cert.Reference4Ideal.Read

variable (x0 : (⟨S1x16384x2048, .f32⟩ : BufTy).Contents (Elt Ideal)) (x1 : (⟨S1x2048, .f32⟩ : BufTy).Contents (Elt Ideal))
  (x2 : (⟨S1x2048x8192, .f32⟩ : BufTy).Contents (Elt Ideal)) (x3 : (⟨S1x2x2048, .f32⟩ : BufTy).Contents (Elt Ideal))

/-- The scaled input row. -/
theorem scaled_apply (r : Fin 16384) (e : Fin 2048) :
    val_main_v13 x0 x1 (ix3 0 r e) = Cert.RowNorm.scaled (fun j => x0 (ix3 0 r j)) (fun j => x1 (ix2 0 j)) e := by
  unfold val_main_v13 val_main_v10 val_main_v9 val_main_v8 val_main_v7 val_main_v5 val_main_v3 val_main_v2 val_main_v1
    val_main_v4 val_main_v6 val_main_v12 val_main_v11 val_main_v0 val_main_cst val_main_cst_0 val_main_cst_1
  pointwise
  rfl

/-- The projected row. -/
theorem projected_apply (r : Fin 16384) (l : Fin 8192) :
    val_main_v15 x0 x1 x2 (ix3 0 r l)
      = Cert.InProj.column (Cert.RowNorm.scaled (fun j => x0 (ix3 0 r j)) (fun j => x1 (ix2 0 j))) (fun k => x2 (ix3 0 k l)) := by
  unfold val_main_v15 val_main_v14
  pointwise [scaled_apply]
  rfl

/-- The transposed values. -/
theorem values_apply (e : Fin 512) (r : Fin 16384) :
    val_main_v34 x0 x1 x2 (ix2 e r)
      = Cert.InProj.column (Cert.RowNorm.scaled (fun j => x0 (ix3 0 r j)) (fun j => x1 (ix2 0 j)))
          (fun k => x2 (ix3 0 k ⟨2560 + e.val, by omega⟩)) := by
  unfold val_main_v34 val_main_v33 val_main_v32 val_main_v18
  pointwise
  exact projected_apply x0 x1 x2 r _

/-- The Fourier input. -/
theorem fourier_apply (r : Fin 16384) (e : Fin 1024) :
    val_main_v36 x0 x1 x2 (ix2 r e)
      = Cert.InProj.column (Cert.RowNorm.scaled (fun j => x0 (ix3 0 r j)) (fun j => x1 (ix2 0 j)))
          (fun k => x2 (ix3 0 k ⟨3072 + e.val, by omega⟩)) := by
  unfold val_main_v36 val_main_v35 val_main_v19
  pointwise
  exact projected_apply x0 x1 x2 r _

/-- The gates. -/
theorem gates_apply (r : Fin 16384) (a : Fin 2) (j : Fin 2048) (l : Fin 4096) (hl : l.val = a.val * 2048 + j.val) :
    val_main_v38 x0 x1 x2 x3 (ix2 r l)
      = Ideal.logistic (Cert.InProj.column (Cert.RowNorm.scaled (fun j => x0 (ix3 0 r j)) (fun j => x1 (ix2 0 j)))
          (fun k => x2 (ix3 0 k ⟨4096 + l.val, by omega⟩)) + x3 (ix3 0 a j)) := by
  have hs : val_main_v37 x0 x1 x2 x3 (ix2 r l) = val_main_v31 x0 x1 x2 x3 (ix4 0 r a j) :=
    Cert.Layout.flatten_row rfl _ shapeCasts_S1x16384x2x2048_S16384x4096 r a j l hl
  have hg : val_main_v21 x0 x1 x2 (ix4 0 r a j) = val_main_v15 x0 x1 x2 (ix3 0 r ⟨4096 + l.val, by omega⟩) := by
    unfold val_main_v21
    refine (shapeCast_apply _ shapeCasts_S1x16384x4096_S1x16384x2x2048 (ix4 0 r a j) (ix3 0 r l) ?_).trans ?_
    · rw [Shape.rowMajor_val_four, Shape.rowMajor_val_three]
      show (0 * 16384 + r.val) * 4096 + l.val = ((0 * 16384 + r.val) * 2 + a.val) * 2048 + j.val
      omega
    · unfold val_main_v20
      pointwise
  show val_main_v37 x0 x1 x2 x3 (ix2 r l) = _
  rw [hs]
  unfold val_main_v31 val_main_v30 val_main_v29 val_main_v28 val_main_v27 val_main_v26 val_main_v25 val_main_v24 val_main_v23
    val_main_v22 val_main_cst_2 val_main_cst_3
  pointwise [hg, projected_apply]
  rfl

end Cert.Reference4Ideal.InProj

end
-- ==== Proof.InProj.Claim.lean ====
/-
  The projection's call and its reference return the same values, Fourier input and gates over the extended reals, whatever the
  arguments hold.
-/
module

public import proofs.«01_k».proof.Defs
public import proofs.«01_k».proof.Proof.InProj.Array
public import proofs.«01_k».proof.Proof.InProj.Run
public import proofs.«01_k».proof.Proof.InProj.Reference
public import proofs.«01_k».proof.Proof.Gen.Reference4Ideal.Run

@[expose] public section

set_option maxRecDepth 16384

noncomputable section

open Idealize.ShloMosaic Idealize.ShloMosaic.TcCoe Idealize.SL.Sem

namespace Cert.InProj

/-- The projection equals its reference over the extended reals: its values, its Fourier input and its gates. -/
theorem algebraic : Cert.algebraic_Kernel4Ideal_Reference4Ideal
    (hKernel4Ideal := Cert.Kernel4Ideal.Gen.facts) (hReference4Ideal := Cert.Reference4Ideal.Gen.facts) := by
  intro m g m' g' _ hargs
  refine ⟨fun c => values m c, fun c => fourier m c, fun c => gates m c, ?_, ?_⟩
  · exact (θ_run _ _ _).mono (fun r h c => ⟨((h c).1 11).trans (values_array m c), ((h c).1 12).trans (fourier_array m c),
      ((h c).1 13).trans (gates_array m c), unchanged m (dats m) h c⟩) (run_main (F := Ideal) m g)
  · refine (θ_run _ _ _).mono (fun r h c => ⟨(h c).1.trans ?_, (h c).2.1.trans ?_, (h c).2.2.1.trans ?_, (h c).2.2.2⟩)
      (Cert.Reference4Ideal.Value.run m' g')
    · obtain ⟨h0, h1, h2, h3, h4, h5⟩ := hargs c
      rw [Cert.Reference4Ideal.Read.val_main_v34_eq]
      funext i
      obtain ⟨e, r, rfl⟩ : ∃ (e : Fin 512) (r : Fin 16384), i = ix2 e r := ⟨i 0, i 1, eq_ix2 i⟩
      rw [Cert.Reference4Ideal.InProj.values_apply, h0, h1, h2]
      rfl
    · obtain ⟨h0, h1, h2, h3, h4, h5⟩ := hargs c
      rw [Cert.Reference4Ideal.Read.val_main_v36_eq]
      funext i
      obtain ⟨r, e, rfl⟩ : ∃ (r : Fin 16384) (e : Fin 1024), i = ix2 r e := ⟨i 0, i 1, eq_ix2 i⟩
      rw [Cert.Reference4Ideal.InProj.fourier_apply, h0, h1, h2]
      rfl
    · obtain ⟨h0, h1, h2, h3, h4, h5⟩ := hargs c
      rw [Cert.Reference4Ideal.Read.val_main_v38_eq]
      funext i
      obtain ⟨r, l, rfl⟩ : ∃ (r : Fin 16384) (l : Fin 4096), i = ix2 r l := ⟨i 0, i 1, eq_ix2 i⟩
      rw [Cert.Reference4Ideal.InProj.gates_apply _ _ _ _ r ⟨l.val / 2048, by omega⟩ ⟨l.val % 2048, by omega⟩ l
        (by show l.val = l.val / 2048 * 2048 + l.val % 2048; omega), h0, h1, h2, h3]
      rfl

end Cert.InProj

end
-- ==== Proof.lean ====
/-
  The certificate of four calls of one transformer layer: the attention call (`Kernel`), the feed-forward call (`Kernel2`),
  the call that merges the two mixers (`Kernel3`) and the input projection (`Kernel4`, of which the values, the Fourier input
  and the gates are taken). Each runs to its end with its arguments unchanged, at the machine's floats and over the extended
  reals; each idealized program comes from the printed one by the sanctioned rules; and over the extended reals each returns
  what its reference returns. The values are proved in `Attention/`, `Ffn/`, `Merge/` and `InProj/`.
-/
module

public import proofs.«01_k».proof.Defs
public import proofs.«01_k».proof.Proof.Gen.Kernel4
public import proofs.«01_k».proof.Proof.Gen.Kernel4Ideal.Launch
public import proofs.«01_k».proof.Proof.Gen.Kernel4Ideal.Skeleton
public import proofs.«01_k».proof.Proof.Gen.Kernel4Ideal.Points
public import proofs.«01_k».proof.Proof.Gen.Reference4Ideal.Run
public import proofs.«01_k».proof.Proof.Gen.Reference4Ideal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_finite_qk
public import Idealize.ShloMosaic.Adequacy
public import Idealize.ShloMosaic.Init
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.Attention.Claim
public import proofs.«01_k».proof.Proof.Ffn.Claim
public import proofs.«01_k».proof.Proof.Merge.Claim
public import proofs.«01_k».proof.Proof.InProj.Frames
public import proofs.«01_k».proof.Proof.InProj.Claim

@[expose] public section

noncomputable section

namespace Cert.Proof

open Idealize.ShloMosaic Idealize.SL.Sem

/-- The attention reference terminates with its arguments unchanged and every counter at zero: it declares no semaphore. -/
theorem frame_ReferenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The feed-forward reference terminates with its arguments unchanged and every counter at zero: it declares no semaphore. -/
theorem frame_Reference2Ideal : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The merging reference terminates with its arguments unchanged and every counter at zero: it declares no semaphore. -/
theorem frame_Reference3Ideal : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- The one named constant has the value that its name is given. -/
theorem scale_named : Cert.preserves_Kernel_KernelIdeal :=
  IdealRules.named_const.statement Cert.KernelIdeal.κ "q_scale" .f32 0x3E0293EE#32 _ rfl

/-- All the claims. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Pre_finite_qk.Gen.facts,
    fun m ρ _ => Cert.Kernel.Gen.frame m ρ,
    fun m ρ _ => Cert.KernelIdeal.Gen.frame m ρ,
    fun m ρ _ => Cert.KernelIdeal.Gen.frame m ρ,
    frame_ReferenceIdeal,
    fun m ρ _ => frame_ReferenceIdeal m ρ trivial,
    fun m ρ _ => Cert.Kernel2.Gen.frame m ρ,
    fun m ρ _ => Cert.Kernel2Ideal.Gen.frame m ρ,
    frame_Reference2Ideal,
    fun m ρ _ => Cert.Kernel3.Gen.frame m ρ,
    fun m ρ _ => Cert.Kernel3Ideal.Gen.frame m ρ,
    frame_Reference3Ideal,
    Cert.InProj.frame_bits, Cert.InProj.frame_ideal, Cert.InProj.frame_reference,
    scale_named, Cert.Attention.algebraic, trivial, Cert.Ffn.algebraic, trivial, Cert.Merge.algebraic,
    trivial, Cert.InProj.algebraic⟩

end Cert.Proof

end
